-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4))
      ∧ r.2.sem = fun _ => 0)

def preserves_Mixer_MixerIdeal : Prop :=
  IdealRules.named_const.Statement Cert.MixerIdeal.κ "nlg0" .f32 0x3D020AEC#32 ((-(Real.log (66571993181 / 68719476736)) : ℝ) : EReal)
  ∧ IdealRules.named_const.Statement Cert.MixerIdeal.κ "nlg1" .f32 0x3C8102B3#32 ((-(Real.log (63 / 64)) : ℝ) : EReal)
  ∧ IdealRules.named_const.Statement Cert.MixerIdeal.κ "nlg2" .f32 0x3C0080AC#32 ((-(Real.log (127 / 128)) : ℝ) : EReal)
  ∧ IdealRules.named_const.Statement Cert.MixerIdeal.κ "nlg3" .f32 0x3B80402B#32 ((-(Real.log (255 / 256)) : ℝ) : EReal)
  ∧ IdealRules.named_const.Statement Cert.MixerIdeal.κ "gn0" .f32 0x399FCAFD#32 ((869656617951004907566205893648063628150034012262072621508831845946396336961342082116983391703385320055208933922785274659445082609359817412991359476490016045070393911448580622895091367014130426128772862339854602036766648160533150433258590583599533280671172984174016120761831876910869372035623888139214589615060173412435525061937276133321813955209179823359851308083396182041625453494742337102306590816986316703201735217242526173927588144992234928397676012516954696240317905761938130957022473522447481368312787894039668576271211033849999606129449453171986535318516520411063287181852727837440407727874495447737283836721800633425173193103781707214952492470020642838905211636970441817646640508480541731367526586026265415315731445221243726388177153861343424479673216210424895288850303626926105714452095708482592530784728269870628097896524646327066898303937255339191412604664093618219150880582833683470160804336662636881392798723936304470153580519576932519951369832148326292676193077168646268118518831222242644180842892856791691617132659476492140012293936038267151973947345452854029586572657072927253090592134251139657590244754726538783916378021407176967607552018606755463389984246058548018149399172511389529049811594934307479172539409986993987807195674544773954766948940826938825560522829008452879725476942377616151564228151847837005374501382912500983180968507562886135890672359782146994916982654384028365133284827106859763651604721091234455105735655427337012881585079643875599993534667826409169060144154933919027171191852008018693880841397910484203324933098154051276229664871584332195791278603705477007139744782008773851131585753030151610575344300203874471767976807052661972434816821142838229762839456209778795709258028968511219875171542657780666330397214092736368203010684763039113215328911095883309439427875865407150692645256302138671334896309771991815953216505073845489332305773924979968908972648889094263137814526541210120349869159748212001086834820775172762532564831965920590657425125130628697685274461121112163272679352573989516538235373821345805850875139220516490093158743061323030823807800666506418865568731750238970503399863013288137843727889534716159159678196770367034561299392346965572385079710558322125375404254714894064606006668621879405943978453156518486449979031701714997509337788571973464989510293353711190016078959139197465562705955986697550204549402086667879044913211900481292868695757212151099678255806468326045000962454216579799326512013047165254792414339979149040199105467325395842809059116148334851317802422471256157878566462941423978858712435566028038178042110543949666819322550938657061277286312330507427751707419892306726185977704110349212494730065943981541199197872612990299562654597877686573090789719645031222626231093943787308240393254901 / 2853383827120552191855006116506279141863161727643627578924827765518097768416248397453507682572507296412460841478079471880152353178031610401331520672298638953283832403691764527654596922930157639438372369040268112547632449842581948107154302574827135269625459135849025626494910542644037159930522251431987318595250623260215948927185927678068800670796670632313265776890764686998059026031046329369483331024069486927700925132987079946414406417107004109986667064170103998989917321333386435428742514234449428990998220234580743567628167961360115795423814629837284495539782277132583731258907294120618133983060501530195586601849325874013036329046659022689023811873859408101300908180926201863829014289256673017387717184302390314995091586941244348018150588678788127651718256053474805382375060233654185752187235271534908442862587250470643511538050478011831026468110209664908565158253187890649909884977181764206095213202193683229556981229233187841957653589254379946715562332180269643563262891017051987609967919404355873099563739522999268578392528915235156329019943234557874499220738700687853888627395415788508684883217740235952540420846055089489257123476310604703734506598147493687193607701201282703432745120248472690951480318481416058169089147071089310975148694146157347234585138148485431221036355782015768642820966669560216289905135366127684862090087282253217108411151546308055035276201825113292673805568537050525505154983222126950585991226645040779414228739620037468330787418924382205906972557371194056288328649638412834763060227619700012865739751328105289237491897419343290157450723840339302546398444217225857795020603104160256361973821391729424444340723761512447451933398263351971047867442952621022446751962999609644748733601299149459959294049682451777010183373183592845694242375109013245844372974168888671810587196567908956113830966233426799848554868175203475326809673976022406184368102231859916944541299337755180813483803763514761003194715418581416747230987110803743068315793777780624357332016726907084304709147324150663152617488578362362230145981332678512077661118374626625893114804132470906575347070203464575203406559402403572796708877309543388238958392700112001173187133933632021404411086103113734783248068242011121306495990839131308283095877838100906155109830391573457755928086514866628723472294326128323339233353428045426471804623922962848866511481792930843373111113202203086786757874811299593698440451233002674072570512433971363185047443939783657240461100498989482252811459393911356392506930336575348123577501197525687227822055872539305867684760373747818324784196562425726690984431854028880941672283856444450253683433824276679666854429293258650735537903707345267703655580133383145057673565501085908984913913115755860788326811669443655660072981638781093035568504242176 : ℝ) : EReal)
  ∧ IdealRules.named_const.Statement Cert.MixerIdeal.κ "gn1" .f32 0x3C93AF63#32 ((678953623845005056592369166813339509562676364191397441372034719189968222582622529932216875533943642577194326146768626400676083653801060489325511958374335157041878978623600564936620144478814165951006315138407522517579977844034141734211377086848161110387915617309027463090785808508262887484373904716753309436532062927822864853848914235357031574322212834638316167280677961821350573641653352940407369925043251937495191750586982826326401909557380799966468338102207 / 37661131670641134196564321969192408014251456999151389864994922485394646743621925010454453501677282025991386973138875074810350265293671223827650202935793353928987708427837894137043469967463773432450711611521684688399958529029759361085334173782804811953090869395973448087960521176275272318934283811996654224537015142331587374110222375180668100782509056060170328026795191929322603612211172871951146487222820410109263092167280797070716301943769265419640699380301824 : ℝ) : EReal)
  ∧ IdealRules.named_const.Statement Cert.MixerIdeal.κ "gn2" .f32 0x3E0A94F8#32 ((295086161955667385535019860122286386881744331890683765898797830023997644842633062759420505274110218019053810708575415414969690156442860079709106842157200100773010994389209816710144782128069187365163925796960878872984506099756144531963374777428651240363049674276712953273920991450242923498270735307286802913389580871593558866574310755822291511044262030348178779569812053277068673541035396275780837548356472495685228930583632309579713099773203630143974110015824252094298202668820043490956477076767898006020796354330785662455783396200169343 / 2180430559592596690686114639984883382077249494887970723562418121000231728739101521794539854436530152514449412448301312948196471920606072656130628117003357735062365666210104979740536844558241153400063626232421192723882860040829377045381574100489869201343591515030186094052575293132733554567787299885663552166327716893283696540027577518919833891893689326222716143279684962945332338723591774063881144505724061365493637369014673705237266140270431417524926526921083968204091241814006840852906972168345266676522553697263894631477495440062021632 : ℝ) : EReal)
  ∧ IdealRules.named_const.Statement Cert.MixerIdeal.κ "gn3" .f32 0x3EBCB916#32 ((46531388344983681457769984555620005635274427815488751368772861643065273360461098097690597702647394229975161523887729348709679192202790820272357752329882392140552515610822058736740145045150003072264722464746837070302159356661765043244993104360887623976285955058200326531849137668562738184397385361179287309286327712528995820702180594566008294593820621769951491324907014215176509758404760451335847252744697820515292329680698271481385779516652518207263143889034764775414387732372812840456880885163361037485452406176311868267428358492408075197688911053603714883403374930891951109790394269793978310190141201019287109375 / 126238304966058622268417487065116999845484776053576109500509161826268184136202698801551568013761380717534054534851164138648904527931605160527688095259563605939964364716019515983399209962459578542172100149937763938581219604072733422507180056009672540900709554109516816573779593326332288314873251559077853068444977864803391962580800682760017849589281937637993445539366428356761821065267423102149447628375691862210717202025241630303118559188678304314076943801692528246980959705901641444238894928620825482303431806955690226308773426829503900930529395181208739591967195841536053143145775307050594328881077553168201547776 : ℝ) : EReal)

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)) →
    ∃ (v0 : (c : Dev Cert.MixerIdeal.nD) → Buf (Elt Ideal) ((c.tc : Thread Cert.MixerIdeal.nD Cert.MixerIdeal.τ).loc Cert.MixerIdeal.main_v18_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v18_4) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v134) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v8) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4))

def Claim : Prop :=
  ∃ (hMixer : Cert.Mixer.Facts) (hMixerIdeal : Cert.MixerIdeal.Facts) (hMixerRefIdeal : Cert.MixerRefIdeal.Facts) (hExpert : Cert.Expert.Facts) (hExpertIdeal : Cert.ExpertIdeal.Facts) (hExpertRefIdeal : Cert.ExpertRefIdeal.Facts),
    quiescent_Mixer (hMixer := hMixer)
    ∧ quiescent_MixerIdeal (hMixerIdeal := hMixerIdeal)
    ∧ quiescent_MixerRefIdeal (hMixerRefIdeal := hMixerRefIdeal)
    ∧ quiescent_Expert (hExpert := hExpert)
    ∧ quiescent_ExpertIdeal (hExpertIdeal := hExpertIdeal)
    ∧ quiescent_ExpertRefIdeal (hExpertRefIdeal := hExpertRefIdeal)
    ∧ preserves_Mixer_MixerIdeal
    ∧ algebraic_MixerIdeal_MixerRefIdeal (hMixerIdeal := hMixerIdeal) (hMixerRefIdeal := hMixerRefIdeal)
    ∧ preserves_Expert_ExpertIdeal
    ∧ algebraic_ExpertIdeal_ExpertRefIdeal (hExpertIdeal := hExpertIdeal) (hExpertRefIdeal := hExpertRefIdeal)
-- ==== Mixer.lean ====
abbrev S16x256x1024 : Shape := ⟨3, ![16, 256, 1024]⟩
abbrev S6x8x1024 : Shape := ⟨3, ![6, 8, 1024]⟩
abbrev S1024 : Shape := ⟨1, ![1024]⟩
abbrev S1024x3072 : Shape := ⟨2, ![1024, 3072]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S1024x1024 : Shape := ⟨2, ![1024, 1024]⟩
abbrev S1024x16 : Shape := ⟨2, ![1024, 16]⟩
abbrev S256x256 : Shape := ⟨2, ![256, 256]⟩
abbrev S1x1024 : Shape := ⟨2, ![1, 1024]⟩
abbrev S1x512 : Shape := ⟨2, ![1, 512]⟩
abbrev S2x2x256x64 : Shape := ⟨4, ![2, 2, 256, 64]⟩
abbrev S1x2x1x2x1x256x1x64 : Shape := ⟨8, ![1, 2, 1, 2, 1, 256, 1, 64]⟩
abbrev S1x2x1x2x1x256x4x64 : Shape := ⟨8, ![1, 2, 1, 2, 1, 256, 4, 64]⟩
abbrev S2x2x256x256 : Shape := ⟨4, ![2, 2, 256, 256]⟩
abbrev S_ : Shape := ⟨0, ![]⟩
abbrev S2x2x256x512 : Shape := ⟨4, ![2, 2, 256, 512]⟩
abbrev S1024x128 : Shape := ⟨2, ![1024, 128]⟩
abbrev S16x16x256 : Shape := ⟨3, ![16, 16, 256]⟩
abbrev S16x1x2x512 : Shape := ⟨4, ![16, 1, 2, 512]⟩
abbrev S16x1x2x4x128x128 : Shape := ⟨6, ![16, 1, 2, 4, 128, 128]⟩
abbrev S2x256x1024 : Shape := ⟨3, ![2, 256, 1024]⟩
abbrev S2x16x256 : Shape := ⟨3, ![2, 16, 256]⟩
abbrev S2x1x2x512 : Shape := ⟨4, ![2, 1, 2, 512]⟩
abbrev S2x1x2x4x128x128 : Shape := ⟨6, ![2, 1, 2, 4, 128, 128]⟩
abbrev S2x272x512 : Shape := ⟨3, ![2, 272, 512]⟩
abbrev S2x256x512 : Shape := ⟨3, ![2, 256, 512]⟩
abbrev S2x4x256x128 : Shape := ⟨4, ![2, 4, 256, 128]⟩
abbrev S1 : Shape := ⟨1, ![1]⟩
abbrev S1x1x1024 : Shape := ⟨3, ![1, 1, 1024]⟩
abbrev S8x512 : Shape := ⟨2, ![8, 512]⟩
abbrev S1x272x512 : Shape := ⟨3, ![1, 272, 512]⟩
abbrev S272x512 : Shape := ⟨2, ![272, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S512x1024 : Shape := ⟨2, ![512, 1024]⟩
abbrev S256x512 : Shape := ⟨2, ![256, 512]⟩
abbrev S1x256x512 : Shape := ⟨3, ![1, 256, 512]⟩
abbrev S256x128 : Shape := ⟨2, ![256, 128]⟩
abbrev S1x4x256x128 : Shape := ⟨4, ![1, 4, 256, 128]⟩
abbrev S4x256x128 : Shape := ⟨3, ![4, 256, 128]⟩
abbrev S1x256x128 : Shape := ⟨3, ![1, 256, 128]⟩
abbrev S1x1x256x512 : Shape := ⟨4, ![1, 1, 256, 512]⟩
abbrev S1x256 : Shape := ⟨2, ![1, 256]⟩
abbrev S8x128 : Shape := ⟨2, ![8, 128]⟩
abbrev S1x128 : Shape := ⟨2, ![1, 128]⟩
abbrev S1x1x2x512 : Shape := ⟨4, ![1, 1, 2, 512]⟩
abbrev S128x128 : Shape := ⟨2, ![128, 128]⟩
abbrev S1x1x2x4x128x128 : Shape := ⟨6, ![1, 1, 2, 4, 128, 128]⟩
abbrev S2x4x128x128 : Shape := ⟨4, ![2, 4, 128, 128]⟩
abbrev S1x1x128x128 : Shape := ⟨4, ![1, 1, 128, 128]⟩
abbrev S512x128 : Shape := ⟨2, ![512, 128]⟩
abbrev S128x512 : Shape := ⟨2, ![128, 512]⟩
abbrev S16x256 : Shape := ⟨2, ![16, 256]⟩
abbrev S1x16x256 : Shape := ⟨3, ![1, 16, 256]⟩

abbrev nBuf : Space → Nat
  | .hbm => 50
  | .vmem => 39
  | .smem => 0
  | _ => 0

abbrev bufTy : (tb : Table) → Fin (tcTables nBuf tb) → BufTy
  | .hbm, ⟨0, _⟩ => ⟨S16x256x1024, .f32⟩
  | .hbm, ⟨1, _⟩ => ⟨S6x8x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S4x512, .f32⟩
  | .hbm, ⟨7, _⟩ => ⟨S512, .f32⟩
  | .hbm, ⟨8, _⟩ => ⟨S2x8x64x64, .f32⟩
  | .hbm, ⟨9, _⟩ => ⟨S2x512, .f32⟩
  | .hbm, ⟨10, _⟩ => ⟨S2x8x64x64, .f32⟩
  | .hbm, ⟨11, _⟩ => ⟨S2x512, .f32⟩
  | .hbm, ⟨12, _⟩ => ⟨S2x512, .f32⟩
  | .hbm, ⟨13, _⟩ => ⟨S1024x1024, .f32⟩
  | .hbm, ⟨14, _⟩ => ⟨S1024x16, .f32⟩
  | .hbm, ⟨15, _⟩ => ⟨S256x256, .i1⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x512, .f32⟩
  | .hbm, ⟨20, _⟩ => ⟨S2x2x256x64, .f32⟩
  | .hbm, ⟨21, _⟩ => ⟨S1x2x1x2x1x256x1x64, .f32⟩
  | .hbm, ⟨22, _⟩ => ⟨S1x2x1x2x1x256x4x64, .f32⟩
  | .hbm, ⟨23, _⟩ => ⟨S2x2x256x256, .f32⟩
  | .hbm, ⟨24, _⟩ => ⟨S_, .f32⟩
  | .hbm, ⟨25, _⟩ => ⟨S_, .f32⟩
  | .hbm, ⟨26, _⟩ => ⟨S2x2x256x256, .i1⟩
  | .hbm, ⟨27, _⟩ => ⟨S2x2x256x256, .f32⟩
  | .hbm, ⟨28, _⟩ => ⟨S2x2x256x256, .f32⟩
  | .hbm, ⟨29, _⟩ => ⟨S2x2x256x64, .f32⟩
  | .hbm, ⟨30, _⟩ => ⟨S1x2x1x2x1x256x1x64, .f32⟩
  | .hbm, ⟨31, _⟩ => ⟨S1x2x1x2x1x256x4x64, .f32⟩
  | .hbm, ⟨32, _⟩ => ⟨S2x2x256x256, .f32⟩
  | .hbm, ⟨33, _⟩ => ⟨S_, .f32⟩
  | .hbm, ⟨34, _⟩ => ⟨S_, .f32⟩
  | .hbm, ⟨35, _⟩ => ⟨S2x2x256x256, .i1⟩
  | .hbm, ⟨36, _⟩ => ⟨S2x2x256x256, .f32⟩
  | .hbm, ⟨37, _⟩ => ⟨S2x2x256x256, .f32⟩
  | .hbm, ⟨38, _⟩ => ⟨S2x2x256x512, .f32⟩
  | .hbm, ⟨39, _⟩ => ⟨S_, .f32⟩
  | .hbm, ⟨40, _⟩ => ⟨S2x2x256x512, .f32⟩
  | .hbm, ⟨41, _⟩ => ⟨S2x2x256x512, .f32⟩
  | .hbm, ⟨42, _⟩ => ⟨S_, .i32⟩
  | .hbm, ⟨43, _⟩ => ⟨S_, .f32⟩
  | .hbm, ⟨44, _⟩ => ⟨S1024x128, .f32⟩
  | .hbm, ⟨45, _⟩ => ⟨S16x256x1024, .f32⟩
  | .hbm, ⟨46, _⟩ => ⟨S16x256x1024, .bf16⟩
  | .hbm, ⟨47, _⟩ => ⟨S16x16x256, .f32⟩
  | .hbm, ⟨48, _⟩ => ⟨S16x1x2x512, .f32⟩
  | .hbm, ⟨49, _⟩ => ⟨S16x1x2x4x128x128, .f32⟩
  | .local _ .vmem, ⟨0, _⟩ => ⟨S2x256x1024, .f32⟩
  | .local _ .vmem, ⟨1, _⟩ => ⟨S2x256x1024, .f32⟩
  | .local _ .vmem, ⟨2, _⟩ => ⟨S6x8x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S4x512, .f32⟩
  | .local _ .vmem, ⟨10, _⟩ => ⟨S1x512, .f32⟩
  | .local _ .vmem, ⟨11, _⟩ => ⟨S2x512, .f32⟩
  | .local _ .vmem, ⟨12, _⟩ => ⟨S2x512, .f32⟩
  | .local _ .vmem, ⟨13, _⟩ => ⟨S2x512, .f32⟩
  | .local _ .vmem, ⟨14, _⟩ => ⟨S2x2x256x512, .f32⟩
  | .local _ .vmem, ⟨15, _⟩ => ⟨S1024x128, .f32⟩
  | .local _ .vmem, ⟨16, _⟩ => ⟨S2x256x1024, .f32⟩
  | .local _ .vmem, ⟨17, _⟩ => ⟨S2x256x1024, .f32⟩
  | .local _ .vmem, ⟨18, _⟩ => ⟨S2x256x1024, .bf16⟩
  | .local _ .vmem, ⟨19, _⟩ => ⟨S2x256x1024, .bf16⟩
  | .local _ .vmem, ⟨20, _⟩ => ⟨S2x16x256, .f32⟩
  | .local _ .vmem, ⟨21, _⟩ => ⟨S2x16x256, .f32⟩
  | .local _ .vmem, ⟨22, _⟩ => ⟨S2x1x2x512, .f32⟩
  | .local _ .vmem, ⟨23, _⟩ => ⟨S2x1x2x512, .f32⟩
  | .local _ .vmem, ⟨24, _⟩ => ⟨S2x1x2x4x128x128, .f32⟩
  | .local _ .vmem, ⟨25, _⟩ => ⟨S2x1x2x4x128x128, .f32⟩
  | .local _ .vmem, ⟨26, _⟩ => ⟨S2x272x512, .f32⟩
  | .local _ .vmem, ⟨27, _⟩ => ⟨S2x256x512, .f32⟩
  | .local _ .vmem, ⟨28, _⟩ => ⟨S2x4x256x128, .f32⟩
  | .local _ .vmem, ⟨29, _⟩ => ⟨S2x4x256x128, .f32⟩
  | .local _ .vmem, ⟨30, _⟩ => ⟨S2x4x256x128, .f32⟩
  | .local _ .vmem, ⟨31, _⟩ => ⟨S2x4x256x128, .f32⟩
  | .local _ .vmem, ⟨32, _⟩ => ⟨S2x256x512, .f32⟩
  | .local _ .vmem, ⟨33, _⟩ => ⟨S2x4x256x128, .f32⟩
  | .local _ .vmem, ⟨34, _⟩ => ⟨S2x4x256x128, .f32⟩
  | .local _ .vmem, ⟨35, _⟩ => ⟨S2x4x256x128, .f32⟩
  | .local _ .vmem, ⟨36, _⟩ => ⟨S2x4x256x128, .f32⟩
  | .local _ .vmem, ⟨37, _⟩ => ⟨S2x256x512, .f32⟩
  | .local _ .vmem, ⟨38, _⟩ => ⟨S1024x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_call2_v0 : Ref sig .tc := ⟨.hbm, 43, rfl⟩
abbrev main_v17 : Ref sig .tc := ⟨.hbm, 44, rfl⟩
abbrev main_v18_0 : Ref sig .tc := ⟨.hbm, 45, rfl⟩
abbrev main_v18_1 : Ref sig .tc := ⟨.hbm, 46, rfl⟩
abbrev main_v18_2 : Ref sig .tc := ⟨.hbm, 47, rfl⟩
abbrev main_v18_3 : Ref sig .tc := ⟨.hbm, 48, rfl⟩
abbrev main_v18_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![8], ![false]⟩

def k0_mult1 : BitVec 32 :=
  let c0_i32_40 : BitVec 32 := 0#32
  c0_i32_40
def k0_off1 : Fin 2 → Nat :=
  let c0_i32_40 : BitVec 32 := 0#32
  let v58 : BitVec 32 := c0_i32_40
  let c8_i32 : BitVec 32 := 8#32
  let v103 : BitVec 32 := Scalar.addi v58 c8_i32
  let v106 : Index := Scalar.indexCast v103
  let c0_67 : Index := 0#32
  ![v106.toNat, 0]
def k0_mult2 : BitVec 32 :=
  let c0_i32_341 : BitVec 32 := 0#32
  c0_i32_341
def k0_mult3 : BitVec 32 :=
  let c0_i32_504 : BitVec 32 := 0#32
  c0_i32_504
@[reducible] def k0_t1_loop : Scf.Loop 32 :=
  let c0_i32_693 : BitVec 32 := 0#32
  let c4_i32 : BitVec 32 := 4#32
  let v1217 : BitVec 32 := Scalar.addi c0_i32_693 c4_i32
  let c1_i32_694 : BitVec 32 := 1#32
  ⟨c0_i32_693, v1217, c1_i32_694⟩
def k0_mult4 (k0_t1 : Fin k0_t1_loop.trips) : BitVec 32 :=
  let c0_i32_693 : BitVec 32 := 0#32
  let c1_i32_694 : BitVec 32 := 1#32
  let arg36 : BitVec 32 := Scf.iv c0_i32_693 c1_i32_694 k0_t1
  let c64_i32 : BitVec 32 := 64#32
  let v2103 : BitVec 32 := Scalar.muli arg36 c64_i32
  v2103
def k0_mult5 (k0_t1 : Fin k0_t1_loop.trips) : BitVec 32 :=
  let c3_i32 : BitVec 32 := 3#32
  let c0_i32_693 : BitVec 32 := 0#32
  let c1_i32_694 : BitVec 32 := 1#32
  let arg36 : BitVec 32 := Scf.iv c0_i32_693 c1_i32_694 k0_t1
  let v2105 : BitVec 32 := Scalar.subi c3_i32 arg36
  let c64_i32_1789 : BitVec 32 := 64#32
  let v2106 : BitVec 32 := Scalar.muli v2105 c64_i32_1789
  v2106
def k0_off2 (k0_t1 : Fin k0_t1_loop.trips) (c0_i32_1790 : BitVec 32) : Fin 2 → Nat :=
  let c0_i32_693 : BitVec 32 := 0#32
  let c1_i32_694 : BitVec 32 := 1#32
  let arg36 : BitVec 32 := Scf.iv c0_i32_693 c1_i32_694 k0_t1
  let c64_i32 : BitVec 32 := 64#32
  let v2103 : BitVec 32 := Scalar.muli arg36 c64_i32
  let v2104 : BitVec 32 := v2103
  let v2108 : BitVec 32 := Scalar.addi v2104 c0_i32_1790
  let v2120 : Index := Scalar.indexCast v2108
  let c0_1801 : Index := 0#32
  ![v2120.toNat, 0]
def k0_off3 (k0_t1 : Fin k0_t1_loop.trips) (c7_i32_1990 : BitVec 32) : Fin 2 → Nat :=
  let c3_i32 : BitVec 32 := 3#32
  let c0_i32_693 : BitVec 32 := 0#32
  let c1_i32_694 : BitVec 32 := 1#32
  let arg36 : BitVec 32 := Scf.iv c0_i32_693 c1_i32_694 k0_t1
  let v2105 : BitVec 32 := Scalar.subi c3_i32 arg36
  let c64_i32_1789 : BitVec 32 := 64#32
  let v2106 : BitVec 32 := Scalar.muli v2105 c64_i32_1789
  let v2107 : BitVec 32 := v2106
  let v2368 : BitVec 32 := Scalar.addi v2107 c7_i32_1990
  let v2373 : Index := Scalar.indexCast v2368
  let c0_1997 : Index := 0#32
  ![v2373.toNat, 0]
def k0_mult6 : BitVec 32 :=
  let c0_i32_791 : BitVec 32 := 0#32
  c0_i32_791
def k0_mult7 : BitVec 32 :=
  let c0_i32_872 : BitVec 32 := 0#32
  c0_i32_872
def k0_mult8 : BitVec 32 :=
  let c0_i32_1730 : BitVec 32 := 0#32
  c0_i32_1730
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2x256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x16x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1x2x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x2x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixerIdeal.lean ====
variable {F : FTy → Type} [FloatOps F] [Named F]
def κ : String → Option EReal := fun
  | "gn0" => some ((869656617951004907566205893648063628150034012262072621508831845946396336961342082116983391703385320055208933922785274659445082609359817412991359476490016045070393911448580622895091367014130426128772862339854602036766648160533150433258590583599533280671172984174016120761831876910869372035623888139214589615060173412435525061937276133321813955209179823359851308083396182041625453494742337102306590816986316703201735217242526173927588144992234928397676012516954696240317905761938130957022473522447481368312787894039668576271211033849999606129449453171986535318516520411063287181852727837440407727874495447737283836721800633425173193103781707214952492470020642838905211636970441817646640508480541731367526586026265415315731445221243726388177153861343424479673216210424895288850303626926105714452095708482592530784728269870628097896524646327066898303937255339191412604664093618219150880582833683470160804336662636881392798723936304470153580519576932519951369832148326292676193077168646268118518831222242644180842892856791691617132659476492140012293936038267151973947345452854029586572657072927253090592134251139657590244754726538783916378021407176967607552018606755463389984246058548018149399172511389529049811594934307479172539409986993987807195674544773954766948940826938825560522829008452879725476942377616151564228151847837005374501382912500983180968507562886135890672359782146994916982654384028365133284827106859763651604721091234455105735655427337012881585079643875599993534667826409169060144154933919027171191852008018693880841397910484203324933098154051276229664871584332195791278603705477007139744782008773851131585753030151610575344300203874471767976807052661972434816821142838229762839456209778795709258028968511219875171542657780666330397214092736368203010684763039113215328911095883309439427875865407150692645256302138671334896309771991815953216505073845489332305773924979968908972648889094263137814526541210120349869159748212001086834820775172762532564831965920590657425125130628697685274461121112163272679352573989516538235373821345805850875139220516490093158743061323030823807800666506418865568731750238970503399863013288137843727889534716159159678196770367034561299392346965572385079710558322125375404254714894064606006668621879405943978453156518486449979031701714997509337788571973464989510293353711190016078959139197465562705955986697550204549402086667879044913211900481292868695757212151099678255806468326045000962454216579799326512013047165254792414339979149040199105467325395842809059116148334851317802422471256157878566462941423978858712435566028038178042110543949666819322550938657061277286312330507427751707419892306726185977704110349212494730065943981541199197872612990299562654597877686573090789719645031222626231093943787308240393254901 / 2853383827120552191855006116506279141863161727643627578924827765518097768416248397453507682572507296412460841478079471880152353178031610401331520672298638953283832403691764527654596922930157639438372369040268112547632449842581948107154302574827135269625459135849025626494910542644037159930522251431987318595250623260215948927185927678068800670796670632313265776890764686998059026031046329369483331024069486927700925132987079946414406417107004109986667064170103998989917321333386435428742514234449428990998220234580743567628167961360115795423814629837284495539782277132583731258907294120618133983060501530195586601849325874013036329046659022689023811873859408101300908180926201863829014289256673017387717184302390314995091586941244348018150588678788127651718256053474805382375060233654185752187235271534908442862587250470643511538050478011831026468110209664908565158253187890649909884977181764206095213202193683229556981229233187841957653589254379946715562332180269643563262891017051987609967919404355873099563739522999268578392528915235156329019943234557874499220738700687853888627395415788508684883217740235952540420846055089489257123476310604703734506598147493687193607701201282703432745120248472690951480318481416058169089147071089310975148694146157347234585138148485431221036355782015768642820966669560216289905135366127684862090087282253217108411151546308055035276201825113292673805568537050525505154983222126950585991226645040779414228739620037468330787418924382205906972557371194056288328649638412834763060227619700012865739751328105289237491897419343290157450723840339302546398444217225857795020603104160256361973821391729424444340723761512447451933398263351971047867442952621022446751962999609644748733601299149459959294049682451777010183373183592845694242375109013245844372974168888671810587196567908956113830966233426799848554868175203475326809673976022406184368102231859916944541299337755180813483803763514761003194715418581416747230987110803743068315793777780624357332016726907084304709147324150663152617488578362362230145981332678512077661118374626625893114804132470906575347070203464575203406559402403572796708877309543388238958392700112001173187133933632021404411086103113734783248068242011121306495990839131308283095877838100906155109830391573457755928086514866628723472294326128323339233353428045426471804623922962848866511481792930843373111113202203086786757874811299593698440451233002674072570512433971363185047443939783657240461100498989482252811459393911356392506930336575348123577501197525687227822055872539305867684760373747818324784196562425726690984431854028880941672283856444450253683433824276679666854429293258650735537903707345267703655580133383145057673565501085908984913913115755860788326811669443655660072981638781093035568504242176 : ℝ) : EReal)
  | "gn1" => some ((678953623845005056592369166813339509562676364191397441372034719189968222582622529932216875533943642577194326146768626400676083653801060489325511958374335157041878978623600564936620144478814165951006315138407522517579977844034141734211377086848161110387915617309027463090785808508262887484373904716753309436532062927822864853848914235357031574322212834638316167280677961821350573641653352940407369925043251937495191750586982826326401909557380799966468338102207 / 37661131670641134196564321969192408014251456999151389864994922485394646743621925010454453501677282025991386973138875074810350265293671223827650202935793353928987708427837894137043469967463773432450711611521684688399958529029759361085334173782804811953090869395973448087960521176275272318934283811996654224537015142331587374110222375180668100782509056060170328026795191929322603612211172871951146487222820410109263092167280797070716301943769265419640699380301824 : ℝ) : EReal)
  | "gn2" => some ((295086161955667385535019860122286386881744331890683765898797830023997644842633062759420505274110218019053810708575415414969690156442860079709106842157200100773010994389209816710144782128069187365163925796960878872984506099756144531963374777428651240363049674276712953273920991450242923498270735307286802913389580871593558866574310755822291511044262030348178779569812053277068673541035396275780837548356472495685228930583632309579713099773203630143974110015824252094298202668820043490956477076767898006020796354330785662455783396200169343 / 2180430559592596690686114639984883382077249494887970723562418121000231728739101521794539854436530152514449412448301312948196471920606072656130628117003357735062365666210104979740536844558241153400063626232421192723882860040829377045381574100489869201343591515030186094052575293132733554567787299885663552166327716893283696540027577518919833891893689326222716143279684962945332338723591774063881144505724061365493637369014673705237266140270431417524926526921083968204091241814006840852906972168345266676522553697263894631477495440062021632 : ℝ) : EReal)
  | "gn3" => some ((46531388344983681457769984555620005635274427815488751368772861643065273360461098097690597702647394229975161523887729348709679192202790820272357752329882392140552515610822058736740145045150003072264722464746837070302159356661765043244993104360887623976285955058200326531849137668562738184397385361179287309286327712528995820702180594566008294593820621769951491324907014215176509758404760451335847252744697820515292329680698271481385779516652518207263143889034764775414387732372812840456880885163361037485452406176311868267428358492408075197688911053603714883403374930891951109790394269793978310190141201019287109375 / 126238304966058622268417487065116999845484776053576109500509161826268184136202698801551568013761380717534054534851164138648904527931605160527688095259563605939964364716019515983399209962459578542172100149937763938581219604072733422507180056009672540900709554109516816573779593326332288314873251559077853068444977864803391962580800682760017849589281937637993445539366428356761821065267423102149447628375691862210717202025241630303118559188678304314076943801692528246980959705901641444238894928620825482303431806955690226308773426829503900930529395181208739591967195841536053143145775307050594328881077553168201547776 : ℝ) : EReal)
  | "nlg0" => some ((-(Real.log (66571993181 / 68719476736)) : ℝ) : EReal)
  | "nlg1" => some ((-(Real.log (63 / 64)) : ℝ) : EReal)
  | "nlg2" => some ((-(Real.log (127 / 128)) : ℝ) : EReal)
  | "nlg3" => some ((-(Real.log (255 / 256)) : ℝ) : EReal)
  | _ => none
-- ==== MixerRefIdeal.lean ====
abbrev S16x256x1024 : Shape := ⟨3, ![16, 256, 1024]⟩
abbrev S6x8x1024 : Shape := ⟨3, ![6, 8, 1024]⟩
abbrev S1024 : Shape := ⟨1, ![1024]⟩
abbrev S1024x3072 : Shape := ⟨2, ![1024, 3072]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S1024x1024 : Shape := ⟨2, ![1024, 1024]⟩
abbrev S1024x16 : Shape := ⟨2, ![1024, 16]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x3072 : Shape := ⟨3, ![16, 256, 3072]⟩
abbrev S16x256x512 : Shape := ⟨3, ![16, 256, 512]⟩
abbrev S16x4x64x4x128 : Shape := ⟨5, ![16, 4, 64, 4, 128]⟩
abbrev S64 : Shape := ⟨1, ![64]⟩
abbrev S1 : Shape := ⟨1, ![1]⟩
abbrev S4 : Shape := ⟨1, ![4]⟩
abbrev S1x64 : Shape := ⟨2, ![1, 64]⟩
abbrev S4x1 : Shape := ⟨2, ![4, 1]⟩
abbrev S4x64 : Shape := ⟨2, ![4, 64]⟩
abbrev S4x1x1 : Shape := ⟨3, ![4, 1, 1]⟩
abbrev S64x4 : Shape := ⟨2, ![64, 4]⟩
abbrev S1x1x64x4x1 : Shape := ⟨5, ![1, 1, 64, 4, 1]⟩
abbrev S16x4x4x128x128 : Shape := ⟨5, ![16, 4, 4, 128, 128]⟩
abbrev S16x4x128x128 : Shape := ⟨4, ![16, 4, 128, 128]⟩
abbrev S1x4x1x1 : Shape := ⟨4, ![1, 4, 1, 1]⟩
abbrev S16x1x4x128x128 : Shape := ⟨5, ![16, 1, 4, 128, 128]⟩
abbrev S16x2x4x128x128 : Shape := ⟨5, ![16, 2, 4, 128, 128]⟩
abbrev S16x1x2x4x128x128 : Shape := ⟨6, ![16, 1, 2, 4, 128, 128]⟩

abbrev nBuf : Space → Nat
  | .hbm => 169
  | .vmem => 0
  | .smem => 0
  | _ => 0

abbrev hbmTy0_0 (i : Nat) : BufTy := match i % 128 with
  | 0 => ⟨S16x256x1024, .f32⟩
  | 1 => ⟨S6x8x1024, .f32⟩
  | 2 => ⟨S1024, .f32⟩
  | 3 => ⟨S1024, .f32⟩
  | 4 => ⟨S1024, .f32⟩
  | 5 => ⟨S1024x3072, .f32⟩
  | 6 => ⟨S4x512, .f32⟩
  | 7 => ⟨S512, .f32⟩
  | 8 => ⟨S2x8x64x64, .f32⟩
  | 9 => ⟨S2x512, .f32⟩
  | 10 => ⟨S2x8x64x64, .f32⟩
  | 11 => ⟨S2x512, .f32⟩
  | 12 => ⟨S2x512, .f32⟩
  | 13 => ⟨S1024x1024, .f32⟩
  | 14 => ⟨S1024x16, .f32⟩
  | 15 => ⟨S1x1x1024, .f32⟩
  | 16 => ⟨S1024, .f32⟩
  | 17 => ⟨S1x1x1024, .f32⟩
  | 18 => ⟨S1024, .f32⟩
  | 19 => ⟨S16x256x1024, .f32⟩
  | 20 => ⟨S_, .f32⟩
  | 21 => ⟨S16x256, .f32⟩
  | 22 => ⟨S16x256x1, .f32⟩
  | 23 => ⟨S_, .f32⟩
  | 24 => ⟨S16x256x1, .f32⟩
  | 25 => ⟨S16x256x1, .f32⟩
  | 26 => ⟨S_, .f32⟩
  | 27 => ⟨S16x256x1, .f32⟩
  | 28 => ⟨S16x256x1, .f32⟩
  | 29 => ⟨S16x256x1, .f32⟩
  | 30 => ⟨S16x256x1024, .f32⟩
  | 31 => ⟨S16x256x1024, .f32⟩
  | 32 => ⟨S1x1x1024, .f32⟩
  | 33 => ⟨S16x256x1024, .f32⟩
  | 34 => ⟨S16x256x1024, .f32⟩
  | 35 => ⟨S_, .f32⟩
  | 36 => ⟨S1024, .f32⟩
  | 37 => ⟨S1024, .f32⟩
  | 38 => ⟨S1x1x1024, .f32⟩
  | 39 => ⟨S16x256x1024, .f32⟩
  | 40 => ⟨S16x256x1024, .f32⟩
  | 41 => ⟨S1x1x1024, .f32⟩
  | 42 => ⟨S16x256x1024, .f32⟩
  | 43 => ⟨S16x256x1024, .f32⟩
  | 44 => ⟨S16x256x3072, .f32⟩
  | 45 => ⟨S16x256x512, .f32⟩
  | 46 => ⟨S16x4x64x4x128, .f32⟩
  | 47 => ⟨S16x256x512, .f32⟩
  | 48 => ⟨S16x4x64x4x128, .f32⟩
  | 49 => ⟨S64, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S1, .f32⟩
  | 57 => ⟨S1, .f32⟩
  | 58 => ⟨S1, .f32⟩
  | 59 => ⟨S1, .f32⟩
  | 60 => ⟨S4, .f32⟩
  | 61 => ⟨S4, .f32⟩
  | 62 => ⟨S_, .f32⟩
  | 63 => ⟨S_, .f32⟩
  | 64 => ⟨S_, .f32⟩
  | 65 => ⟨S_, .f32⟩
  | 66 => ⟨S1, .f32⟩
  | 67 => ⟨S1, .f32⟩
  | 68 => ⟨S1, .f32⟩
  | 69 => ⟨S1, .f32⟩
  | 70 => ⟨S4, .f32⟩
  | 71 => ⟨S_, .f32⟩
  | 72 => ⟨S64, .f32⟩
  | 73 => ⟨S64, .f32⟩
  | 74 => ⟨S1x64, .f32⟩
  | 75 => ⟨S4x1, .f32⟩
  | 76 => ⟨S4x64, .f32⟩
  | 77 => ⟨S4x64, .f32⟩
  | 78 => ⟨S4x64, .f32⟩
  | 79 => ⟨S4x64, .f32⟩
  | 80 => ⟨S_, .f32⟩
  | 81 => ⟨S4, .f32⟩
  | 82 => ⟨S4, .f32⟩
  | 83 => ⟨S4, .f32⟩
  | 84 => ⟨S4x1x1, .f32⟩
  | 85 => ⟨S64x4, .f32⟩
  | 86 => ⟨S1x1x64x4x1, .f32⟩
  | 87 => ⟨S16x4x64x4x128, .f32⟩
  | 88 => ⟨S16x4x64x4x128, .f32⟩
  | 89 => ⟨S16x4x4x128x128, .f32⟩
  | 90 => ⟨S_, .f32⟩
  | 91 => ⟨S16x4x128x128, .f32⟩
  | 92 => ⟨S1x4x1x1, .f32⟩
  | 93 => ⟨S16x4x128x128, .f32⟩
  | 94 => ⟨S16x4x128x128, .f32⟩
  | 95 => ⟨S16x1x4x128x128, .f32⟩
  | 96 => ⟨S16x4x128x128, .f32⟩
  | 97 => ⟨S16x4x128x128, .f32⟩
  | 98 => ⟨S1x4x1x1, .f32⟩
  | 99 => ⟨S16x4x128x128, .f32⟩
  | 100 => ⟨S16x4x128x128, .f32⟩
  | 101 => ⟨S16x1x4x128x128, .f32⟩
  | 102 => ⟨S16x4x128x128, .f32⟩
  | 103 => ⟨S16x4x128x128, .f32⟩
  | 104 => ⟨S1x4x1x1, .f32⟩
  | 105 => ⟨S16x4x128x128, .f32⟩
  | 106 => ⟨S16x4x128x128, .f32⟩
  | 107 => ⟨S16x1x4x128x128, .f32⟩
  | 108 => ⟨S16x4x128x128, .f32⟩
  | 109 => ⟨S16x4x128x128, .f32⟩
  | 110 => ⟨S1x4x1x1, .f32⟩
  | 111 => ⟨S16x4x128x128, .f32⟩
  | 112 => ⟨S16x4x128x128, .f32⟩
  | 113 => ⟨S16x1x4x128x128, .f32⟩
  | 114 => ⟨S16x4x128x128, .f32⟩
  | 115 => ⟨S16x4x128x128, .f32⟩
  | 116 => ⟨S16x4x64x4x128, .f32⟩
  | 117 => ⟨S16x4x64x4x128, .f32⟩
  | 118 => ⟨S16x4x64x4x128, .f32⟩
  | 119 => ⟨S16x4x64x4x128, .f32⟩
  | 120 => ⟨S_, .f32⟩
  | 121 => ⟨S64, .f32⟩
  | 122 => ⟨S64, .f32⟩
  | 123 => ⟨S1x64, .f32⟩
  | 124 => ⟨S4x1, .f32⟩
  | 125 => ⟨S4x64, .f32⟩
  | 126 => ⟨S4x64, .f32⟩
  | 127 => ⟨S4x64, .f32⟩
  | _ => ⟨S16x256x1024, .f32⟩

abbrev hbmTy0_1 (i : Nat) : BufTy := match i % 128 with
  | 0 => ⟨S4x64, .f32⟩
  | 1 => ⟨S_, .f32⟩
  | 2 => ⟨S4, .f32⟩
  | 3 => ⟨S4, .f32⟩
  | 4 => ⟨S4, .f32⟩
  | 5 => ⟨S4x1x1, .f32⟩
  | 6 => ⟨S64x4, .f32⟩
  | 7 => ⟨S1x1x64x4x1, .f32⟩
  | 8 => ⟨S16x4x64x4x128, .f32⟩
  | 9 => ⟨S16x4x64x4x128, .f32⟩
  | 10 => ⟨S16x4x4x128x128, .f32⟩
  | 11 => ⟨S_, .f32⟩
  | 12 => ⟨S16x4x128x128, .f32⟩
  | 13 => ⟨S1x4x1x1, .f32⟩
  | 14 => ⟨S16x4x128x128, .f32⟩
  | 15 => ⟨S16x4x128x128, .f32⟩
  | 16 => ⟨S16x1x4x128x128, .f32⟩
  | 17 => ⟨S16x4x128x128, .f32⟩
  | 18 => ⟨S16x4x128x128, .f32⟩
  | 19 => ⟨S1x4x1x1, .f32⟩
  | 20 => ⟨S16x4x128x128, .f32⟩
  | 21 => ⟨S16x4x128x128, .f32⟩
  | 22 => ⟨S16x1x4x128x128, .f32⟩
  | 23 => ⟨S16x4x128x128, .f32⟩
  | 24 => ⟨S16x4x128x128, .f32⟩
  | 25 => ⟨S1x4x1x1, .f32⟩
  | 26 => ⟨S16x4x128x128, .f32⟩
  | 27 => ⟨S16x4x128x128, .f32⟩
  | 28 => ⟨S16x1x4x128x128, .f32⟩
  | 29 => ⟨S16x4x128x128, .f32⟩
  | 30 => ⟨S16x4x128x128, .f32⟩
  | 31 => ⟨S1x4x1x1, .f32⟩
  | 32 => ⟨S16x4x128x128, .f32⟩
  | 33 => ⟨S16x4x128x128, .f32⟩
  | 34 => ⟨S16x1x4x128x128, .f32⟩
  | 35 => ⟨S16x4x128x128, .f32⟩
  | 36 => ⟨S16x4x128x128, .f32⟩
  | 37 => ⟨S16x1x4x128x128, .f32⟩
  | 38 => ⟨S16x1x4x128x128, .f32⟩
  | 39 => ⟨S16x2x4x128x128, .f32⟩
  | 40 => ⟨S16x1x2x4x128x128, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_cst_6 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_cst_9 : Ref sig .tc := ⟨.hbm, 63, rfl⟩
abbrev main_cst_10 : Ref sig .tc := ⟨.hbm, 64, rfl⟩
abbrev main_cst_11 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_17 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩

abbrev nD : Nat := 1
abbrev τ : Topo := Topo.v7x

variable {F : FTy → Type} [FloatOps F]
-- ==== Expert.lean ====
abbrev S16x1024x1024 : Shape := ⟨3, ![16, 1024, 1024]⟩
abbrev S16x1024x1 : Shape := ⟨3, ![16, 1024, 1]⟩
abbrev S16x1024x2048 : Shape := ⟨3, ![16, 1024, 2048]⟩
abbrev S16x2048x1024 : Shape := ⟨3, ![16, 2048, 1024]⟩
abbrev S1x1024x1024 : Shape := ⟨3, ![1, 1024, 1024]⟩
abbrev S1x1024x1 : Shape := ⟨3, ![1, 1024, 1]⟩
abbrev S1024x1024 : Shape := ⟨2, ![1024, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1, .f32⟩
  | .local _ .vmem, ⟨3, _⟩ => ⟨S1x1024x1, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertRefIdeal.lean ====
abbrev S16x1024x1024 : Shape := ⟨3, ![16, 1024, 1024]⟩
abbrev S16x1024x1 : Shape := ⟨3, ![16, 1024, 1]⟩
abbrev S16x1024x2048 : Shape := ⟨3, ![16, 1024, 2048]⟩
abbrev S16x2048x1024 : Shape := ⟨3, ![16, 2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x1024x1024, .f32⟩
  | .hbm, ⟨6, _⟩ => ⟨S16x1024x2048, .f32⟩
  | .hbm, ⟨7, _⟩ => ⟨S16x1024x2048, .f32⟩
  | .hbm, ⟨8, _⟩ => ⟨S16x1024x2048, .f32⟩
  | .hbm, ⟨9, _⟩ => ⟨S_, .f32⟩
  | .hbm, ⟨10, _⟩ => ⟨S16x1024x2048, .f32⟩
  | .hbm, ⟨11, _⟩ => ⟨S16x1024x2048, .f32⟩
  | .hbm, ⟨12, _⟩ => ⟨S_, .f32⟩
  | .hbm, ⟨13, _⟩ => ⟨S16x1024x2048, .f32⟩
  | .hbm, ⟨14, _⟩ => ⟨S16x1024x2048, .f32⟩
  | .hbm, ⟨15, _⟩ => ⟨S16x1024x2048, .f32⟩
  | .hbm, ⟨16, _⟩ => ⟨S16x1024x2048, .f32⟩
  | .hbm, ⟨17, _⟩ => ⟨S16x1024x2048, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S16x1024x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Expert.Body.lean ====
/- The expert call's body: one grid point run at symbolic memrefs, and the launch of the whole grid over it. -/
module

public import proofs.«01_k».proof.Proof.Gen.ExpertIdeal.Frame
public import proofs.«01_k».proof.Proof.Gen.ExpertIdeal.Skeleton
public import Idealize.ShloMosaic.Lib.VecWindow

@[expose] public section

set_option maxRecDepth 16384

noncomputable section

namespace Cert.ExpertIdeal.Hand

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Columns `off ..< off+512` of a weight block, as the body loads them. -/
def colsOf (x : Vec F S1x1024x1024 .f32) (off : Nat) (h : ∀ a, (![0, 0, off] : Fin 3 → Nat) a + S1x1024x512.size a ≤ S1x1024x1024.size a) : Vec F S1x1024x512 .f32 :=
  VecWindow.window x ![0, 0, off] S1x1024x512.size h

/-- Rows `off ..< off+512` of a weight block, as the body loads them. -/
def rowsOf (x : Vec F S1x1024x1024 .f32) (off : Nat) (h : ∀ a, (![0, off, 0] : Fin 3 → Nat) a + S1x512x1024.size a ≤ S1x1024x1024.size a) : Vec F S1x512x1024 .f32 :=
  VecWindow.window x ![0, off, 0] S1x512x1024.size h

/-- The running sum after the first half of the block's hidden columns. -/
def half1 (i : grid0.Coords) (x0 : Vec F S1x1024x1024 .bf16) (x2 x3 x4 : Vec F S1x1024x1024 .f32) (s : Vec F S1024x1024 .f32) : FVec F S1024x1024 .f32 :=
  k0_pay5 i x0 s (colsOf x2 0 (by decide)) (colsOf x3 0 (by decide)) (rowsOf x4 0 (by decide))

/-- What the point leaves in the accumulator. -/
def accOf (i : grid0.Coords) (x0 : Vec F S1x1024x1024 .bf16) (x2 x3 x4 : Vec F S1x1024x1024 .f32) (s : Vec F S1024x1024 .f32) : FVec F S1024x1024 .f32 :=
  k0_pay2 (k0_pay4 x0) (half1 i x0 x2 x3 x4 s) (k0_pay6 (colsOf x2 512 (by decide))) (constant S1024x512 .f32 0x00000000#32)
    (colsOf x3 512 (by decide)) (rowsOf x4 512 (by decide))

/-- What the point leaves in the output block. -/
def outOf (i : grid0.Coords) (x0 : Vec F S1x1024x1024 .bf16) (x1 : Vec F S1x1024x1 .f32) (x2 x3 x4 : Vec F S1x1024x1024 .f32) (s : Vec F S1024x1024 .f32) : FVec F S1x1024x1024 .bf16 :=
  k0_pay3 (k0_pay4 x0) (half1 i x0 x2 x3 x4 s) (k0_pay6 (colsOf x2 512 (by decide))) (constant S1024x512 .f32 0x00000000#32)
    (colsOf x3 512 (by decide)) (rowsOf x4 512 (by decide)) x1

/-- The window that is the whole shape is the vector itself. -/
theorem window_all {s : Shape} {α : Type} (x : s.Idx → α) (off : Fin s.rank → Nat) (h : ∀ a, off a + s.size a ≤ s.size a) :
    VecWindow.window x off s.size h = x := funext fun z => congrArg x (Rect.emb_unit_full h z)

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 1000000 in
/-- One point of the body: the inputs are kept, the accumulator ends at `accOf`, the output block at `outOf`. -/
theorem kernelRun (c : Dev nD) (i : grid0.Coords) (arg2 : Memref sig .tc .vmem S1x1024x1024 .bf16) (harg2 : arg2.IsWhole) (arg3 : Memref sig .tc .vmem S1x1024x1 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1024x1024 .bf16) (harg7 : arg7.IsWhole) (arg8 : Memref sig .tc .vmem S1024x1024 .f32) (harg8 : arg8.IsWhole)
    (x0 : Vec F S1x1024x1024 .bf16) (x1 : Vec F S1x1024x1 .f32) (x2 : Vec F S1x1024x1024 .f32) (x3 : Vec F S1x1024x1024 .f32) (x4 : Vec F S1x1024x1024 .f32) (s : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf i x0 x1 x2 x3 x4 s) ∗ owns (c : Thread nD τ) arg8 fullShare (accOf i x0 x2 x3 x4 s)) -∗ K ⟨⟩))
      ⊢ wp frame (wpE (defs₀ (F := F)) Variants.none c none) E (cc0_expert_ffn i arg2 harg2 arg3 harg3 arg4 harg4 arg5 harg5 arg6 harg6 arg7 harg7 arg8 harg8) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    unfold outOf half1 colsOf rowsOf kernelRun.sl.r kernelRun.sl.r_1 kernelRun.sl.r_2 kernelRun.sl.cst_21
    repeat rw [View.readAt_unit _ _ _ rfl (by decide)]
    simp only [harg2.read_unread, harg3.read_unread, harg4.read_unread, harg5.read_unread,
      harg6.read_unread, harg8.read_unread]
    simp only [window_all x0, window_all x1, window_all s]
  · iexists _; isplitr
    swap; · iexact HS0
    ipureintro
    refine (View.read_writes_full _ _ _ _ _).trans ?_
    unfold accOf half1 colsOf rowsOf kernelRun.sl.r kernelRun.sl.r_1 kernelRun.sl.r_2 kernelRun.sl.cst_21
    repeat rw [View.readAt_unit _ _ _ rfl (by decide)]
    simp only [harg2.read_unread, harg3.read_unread, harg4.read_unread, harg5.read_unread,
      harg6.read_unread, harg8.read_unread]
    simp only [window_all x0, window_all x1, window_all s]

end Cert.ExpertIdeal.Hand
-- ==== Proof.Expert.Launch.lean ====
/- The expert call's launch: what the accumulator and the output block hold at every grid point, and the run of the whole grid. -/
module

public import proofs.«01_k».proof.Proof.Expert.Body
public import Idealize.ShloMosaic.Lib.Claim

@[expose] public section

set_option maxRecDepth 16384

noncomputable section

namespace Cert.ExpertIdeal.Hand

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero accumulator: what an expert's sum starts from. -/
def zeroAcc : Vec F S1024x1024 .f32 := broadcast S1024x1024 (Scalar.ofBits .f32 0x00000000#32 : F .f32)

/-- At the first of an expert's two points the body starts from zeros, whatever the accumulator held. -/
theorem half1_reset (i : grid0.Coords) (hi : (i 1).val = 0) (x0 : Vec F S1x1024x1024 .bf16) (x2 x3 x4 : Vec F S1x1024x1024 .f32)
    (s : Vec F S1024x1024 .f32) : half1 i x0 x2 x3 x4 s = half1 i x0 x2 x3 x4 zeroAcc := by
  unfold half1 k0_pay5
  simp only [hi]
  rfl

/-- The first of an expert's points is at an even position. -/
theorem coord_even : ∀ t : Fin cfg0.N, t.val % 2 = 0 → ((grid0.coords t) 1).val = 0 :=
  (by decide +kernel : ∀ t : Fin grid0.N, t.val % 2 = 0 → ((grid0.coords t) 1).val = 0)

/-- What point `t` leaves in the accumulator that held `s`. -/
def stepAcc (c : Dev nD) (t : Fin cfg0.N) (s : Vec F S1024x1024 .f32) : Vec F S1024x1024 .f32 :=
  accOf (grid0.coords t) (iblk m c 0 t) (iblk m c 2 t) (iblk m c 3 t) (iblk m c 4 t) s

/-- What point `t` leaves in the output block when the accumulator held `s`. -/
def stepOut (c : Dev nD) (t : Fin cfg0.N) (s : Vec F S1024x1024 .f32) : Vec F S1x1024x1024 .bf16 :=
  outOf (grid0.coords t) (iblk m c 0 t) (iblk m c 1 t) (iblk m c 2 t) (iblk m c 3 t) (iblk m c 4 t) s

theorem stepAcc_reset (c : Dev nD) (t : Fin cfg0.N) (ht : t.val % 2 = 0) (s : Vec F S1024x1024 .f32) :
    stepAcc m c t s = stepAcc m c t zeroAcc := by
  unfold stepAcc accOf; rw [half1_reset _ (coord_even t ht)]

theorem stepOut_reset (c : Dev nD) (t : Fin cfg0.N) (ht : t.val % 2 = 0) (s : Vec F S1024x1024 .f32) :
    stepOut m c t s = stepOut m c t zeroAcc := by
  unfold stepOut outOf; rw [half1_reset _ (coord_even t ht)]

/-- The accumulator as point `n` finds it (at the first point: counted as zeros, which the reset makes good). -/
def carried (c : Dev nD) : (n : ℕ) → n ≤ cfg0.N → Vec F S1024x1024 .f32
  | 0, _ => zeroAcc
  | n + 1, h => stepAcc m c ⟨n, h⟩ (carried c n (Nat.le_of_lt h))

abbrev accRef : Memref sig .tc .vmem S1024x1024 .f32 := Memref.whole cc0_scratch0

theorem entry_eq (c : Dev nD) :
    (Pipeline.ΦA spec0 c : sProp 𝕄)
      = iprop(iprop((∃ d, owns (c : Thread nD τ) accRef fullShare d)) ∗ (∃ r, prngReg c r)) := by
  unfold Pipeline.ΦA; rw [scopedRest0_eq]; simp only [accRef, owns_whole]; try rfl

/-- What holds between the points: the accumulator at `carried`, once the first point has run. -/
def inv (c : Dev nD) (n : ℕ) (h : n ≤ cfg0.N) : sProp 𝕄 :=
  if n = 0 then Pipeline.ΦA spec0 c
  else iprop(owns (c : Thread nD τ) accRef fullShare (carried m c n h) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => stepOut m c t (carried m c t.val (Nat.le_of_lt t.isLt))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = stepOut m c t (carried m c t.val (Nat.le_of_lt t.isLt)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem inv_start (c : Dev nD) (t : Fin cfg0.N) : (dats m 0 c).Φ t.castSucc = inv m c t.val (Nat.le_of_lt t.isLt) := by
  dsimp only [dats]; exact Pipeline.Dat.Φ_castSucc (inv m c) t

theorem inv_next (c : Dev nD) (t : Fin cfg0.N) :
    (dats m 0 c).Φ t.succ = iprop(owns (c : Thread nD τ) accRef fullShare (stepAcc m c t (carried m c t.val (Nat.le_of_lt t.isLt))) ∗ (∃ r, prngReg c r)) := by
  show inv m c (t.val + 1) t.isLt = _
  unfold inv; rw [if_neg (Nat.succ_ne_zero _)]; rfl

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it gives back. -/
def returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body with the accumulator at `s`, where `s` gives the same step as `carried`. -/
theorem step_from (c : Dev nD) (t : Fin cfg0.N) (s : Vec F S1024x1024 .f32)
    (ha : stepAcc m c t s = stepAcc m c t (carried m c t.val (Nat.le_of_lt t.isLt)))
    (ho : stepOut m c t s = stepOut m c t (carried m c t.val (Nat.le_of_lt t.isLt))) :
    iprop((owns (c : Thread nD τ) accRef fullShare s ∗ (∃ r, prngReg c r)) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
     ⊢ wp frame (wpE (defs₀ (F := F)) Variants.none c none) Set.univ (bodyAt0 t) (fun _ => returned m c t) := by
  unfold returned bodyAt0
  simp only [before_0, before_1, before_2, before_3, before_4]
  rw [show (dats m 0 c).owesAt () t.succ = (dats m 0 c).owesAt () t.castSucc from rfl,
    after_0, after_1, after_2, after_3, after_4, after_5, inv_next, ← ha, ← ho]
  iintro ⟨⟨HS, Hg⟩, Ho, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ (iblk m c 0 t) (iblk m c 1 t) (iblk m c 2 t) (iblk m c 3 t) (iblk m c 4 t) s Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    given m c t ⊢ wp frame (wpE (defs₀ (F := F)) Variants.none c none) Set.univ (bodyAt0 t) (fun _ => returned m c t) := by
  unfold given
  rw [inv_start]
  by_cases hz : t.val = 0
  · have he : t.val % 2 = 0 := by omega
    unfold inv; rw [if_pos hz, entry_eq]
    iintro ⟨⟨⟨%s, HS⟩, Hg⟩, Hr⟩
    iapply (step_from m c t s ((stepAcc_reset m c t he s).trans (stepAcc_reset m c t he _).symm)
      ((stepOut_reset m c t he s).trans (stepOut_reset m c t he _).symm))
    isplitl [HS Hg]
    · isplitl [HS]
      · iexact HS
      iexact Hg
    iexact Hr
  · unfold inv; rw [if_neg hz]
    exact step_from m c t _ rfl rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl]
  unfold inv; rw [if_pos rfl]

theorem hout (c : Dev nD) : (dats m 0 c).Φ (Fin.last cfg0.N) ⊢ Pipeline.ΦA spec0 c := by
  rw [show (dats m 0 c).Φ (Fin.last cfg0.N) = inv m c cfg0.N le_rfl from rfl]
  unfold inv; rw [if_neg (by have : cfg0.N = 32 := N_0; omega), entry_eq]
  iintro ⟨HS, Hg⟩
  isplitl [HS]
  · iexists _; iexact HS
  iexact Hg

set_option backward.isDefEq.respectTransparency.types false in
/-- The whole grid: it ends, with the arrays at what the points wrote and every semaphore at zero. -/
theorem run_grid : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were, the semaphores at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_grid m ρ)))
    ((θ_run defs _ _).mono (fun _ h => h.2) (run_grid m ρ))

end Cert.ExpertIdeal.Hand

end
-- ==== Proof.Expert.Math.lean ====
/- The expert call's arithmetic over the extended reals: one point's contribution as a sum over its 1024 hidden columns. -/
module

public import proofs.«01_k».proof.Proof.Expert.Launch
public import Idealize.ShloMosaic.Lib.Pointwise

@[expose] public section

set_option maxRecDepth 16384

noncomputable section

namespace Cert.ExpertIdeal.Hand

open Cert.ExpertIdeal Cert.ExpertIdeal.Gen
open Idealize.ShloMosaic Idealize.ShloMosaic.TcCoe

/-- The pattern `0x3F000000` is one half. -/
theorem half_eq : Ideal.ofBits .f32 0x3F000000#32 = ((1 / 2 : ℝ) : EReal) := by
  simp [Ideal.ofBits, Ideal.ieee, -EReal.coe_mul]; norm_num

/-- The logistic function by the hyperbolic tangent, at every extended real. -/
theorem logistic_by_tanh (x : EReal) :
    Ideal.ofBits .f32 0x3F000000#32 * Ideal.tanh (Ideal.ofBits .f32 0x3F000000#32 * x) + Ideal.ofBits .f32 0x3F000000#32
      = Ideal.logistic x := by
  rw [half_eq]
  have hpos : (0 : ℝ) < 1 / 2 := by norm_num
  induction x using EReal.rec with
  | bot =>
    rw [EReal.coe_mul_bot_of_pos hpos, Ideal.tanh_bot, Ideal.logistic_bot]
    have : ((1 / 2 : ℝ) : EReal) * -1 + ((1 / 2 : ℝ) : EReal) = (((1 / 2) * (-1) + 1 / 2 : ℝ) : EReal) := by
      push_cast; rfl
    rw [this]; norm_num
  | top =>
    rw [EReal.coe_mul_top_of_pos hpos, Ideal.tanh_top, Ideal.logistic_top]
    have : ((1 / 2 : ℝ) : EReal) * 1 + ((1 / 2 : ℝ) : EReal) = (((1 / 2) * 1 + 1 / 2 : ℝ) : EReal) := by
      push_cast; rfl
    rw [this]; norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    set a := Real.exp (1 / 2 * r) with ha
    set b := Real.exp (-(1 / 2 * r)) with hb
    have ha0 : 0 < a := Real.exp_pos _
    have hb0 : 0 < b := Real.exp_pos _
    have h1 : a + b ≠ 0 := by positivity
    have h2 : 1 + b * b ≠ 0 := by positivity
    field_simp
    nlinarith [e2]

/-- The gate's activation as the kernel computes it: `x · (½ · tanh(½ · x) + ½)`. -/
def act (x : EReal) : EReal :=
  x * (Ideal.ofBits .f32 0x3F000000#32 * Ideal.tanh (Ideal.ofBits .f32 0x3F000000#32 * x) + Ideal.ofBits .f32 0x3F000000#32)

theorem act_eq (x : EReal) : act x = x * Ideal.logistic x := by unfold act; rw [logistic_by_tanh]

/-- One hidden unit of one token: the activated gate times the up projection. -/
def hid (x0 : Vec Ideal S1x1024x1024 .bf16) (x2 x3 : Vec Ideal S1x1024x1024 .f32) (r k : Fin 1024) : EReal :=
  act (∑ j : Fin 1024, x0 (ix3 0 r j) * x2 (ix3 0 j k)) * ∑ j : Fin 1024, x0 (ix3 0 r j) * x3 (ix3 0 j k)

theorem colsOf_apply (x : Vec Ideal S1x1024x1024 .f32) (off : ℕ) (h) (j : Fin 1024) (k : Fin 512) (hk : off + k.val < 1024) :
    colsOf x off h (ix3 0 j k) = x (ix3 0 j ⟨off + k.val, hk⟩) := by
  unfold colsOf VecWindow.window
  refine congrArg x (funext fun a => Fin.ext ?_)
  match a with
  | ⟨0, _⟩ => show 0 + 1 * 0 = 0; rfl
  | ⟨1, _⟩ => show 0 + 1 * j.val = j.val; omega
  | ⟨2, _⟩ => show off + 1 * k.val = off + k.val; omega

theorem rowsOf_apply (x : Vec Ideal S1x1024x1024 .f32) (off : ℕ) (h) (k : Fin 512) (d : Fin 1024) (hk : off + k.val < 1024) :
    rowsOf x off h (ix3 0 k d) = x (ix3 0 ⟨off + k.val, hk⟩ d) := by
  unfold rowsOf VecWindow.window
  refine congrArg x (funext fun a => Fin.ext ?_)
  match a with
  | ⟨0, _⟩ => show 0 + 1 * 0 = 0; rfl
  | ⟨1, _⟩ => show off + 1 * k.val = off + k.val; omega
  | ⟨2, _⟩ => show 0 + 1 * d.val = d.val; omega

theorem half1_apply (i : grid0.Coords) (x0 : Vec Ideal S1x1024x1024 .bf16) (x2 x3 x4 : Vec Ideal S1x1024x1024 .f32) (s : Vec Ideal S1024x1024 .f32)
    (r d : Fin 1024) :
    half1 i x0 x2 x3 x4 s (ix2 r d) = Scalar.select (Scalar.cmpi .eq (BitVec.ofNat 32 (i 1).val) 0#32) (0 : EReal) (s (ix2 r d))
      + ∑ k : Fin 512, hid x0 x2 x3 r ⟨k.val, by omega⟩ * x4 (ix3 0 ⟨k.val, by omega⟩ d) := by
  unfold half1
  generalize hw2 : colsOf x2 0 _ = w2
  generalize hw3 : colsOf x3 0 _ = w3
  generalize hw4 : rowsOf x4 0 _ = w4
  pointwise [k0_pay5, k0_pay4]
  subst hw2 hw3 hw4
  congr 1
  refine Finset.sum_congr rfl fun k _ => ?_
  have hk : 0 + k.val < 1024 := by omega
  simp only [colsOf_apply _ _ _ _ _ hk, rowsOf_apply _ _ _ _ _ hk, hid, act, Nat.zero_add]

theorem pay1_apply (x0 : Vec Ideal S1x1024x1024 .bf16) (x2 x3 x4 : Vec Ideal S1x1024x1024 .f32) (h2 h3 h4) (v : FVec Ideal S1024x1024 .f32)
    (r d : Fin 1024) :
    k0_pay1 (k0_pay4 x0) v (k0_pay6 (colsOf x2 512 h2)) (constant S1024x512 .f32 0x00000000#32) (colsOf x3 512 h3) (rowsOf x4 512 h4) (ix2 r d)
      = v (ix2 r d) + ∑ k : Fin 512, hid x0 x2 x3 r ⟨512 + k.val, by omega⟩ * x4 (ix3 0 ⟨512 + k.val, by omega⟩ d) := by
  generalize hw2 : colsOf x2 512 _ = w2
  generalize hw3 : colsOf x3 512 _ = w3
  generalize hw4 : rowsOf x4 512 _ = w4
  pointwise [k0_pay1, k0_pay4, k0_pay6]
  subst hw2 hw3 hw4
  congr 1
  refine Finset.sum_congr rfl fun k _ => ?_
  have hk : 512 + k.val < 1024 := by omega
  simp only [colsOf_apply _ _ _ _ _ hk, rowsOf_apply _ _ _ _ _ hk, hid, act]

/-- A point's total: what it started from, plus the sum over the 1024 hidden columns of its weight blocks. -/
theorem total_apply (i : grid0.Coords) (x0 : Vec Ideal S1x1024x1024 .bf16) (x2 x3 x4 : Vec Ideal S1x1024x1024 .f32) (h2 h3 h4) (s : Vec Ideal S1024x1024 .f32)
    (r d : Fin 1024) :
    k0_pay1 (k0_pay4 x0) (half1 i x0 x2 x3 x4 s) (k0_pay6 (colsOf x2 512 h2)) (constant S1024x512 .f32 0x00000000#32) (colsOf x3 512 h3) (rowsOf x4 512 h4) (ix2 r d)
      = Scalar.select (Scalar.cmpi .eq (BitVec.ofNat 32 (i 1).val) 0#32) (0 : EReal) (s (ix2 r d))
        + ∑ k : Fin 1024, hid x0 x2 x3 r k * x4 (ix3 0 k d) := by
  rw [pay1_apply, half1_apply, add_assoc, Fin.sum_univ_two_halves 512 512 rfl]

theorem acc_apply (i : grid0.Coords) (x0 : Vec Ideal S1x1024x1024 .bf16) (x2 x3 x4 : Vec Ideal S1x1024x1024 .f32) (s : Vec Ideal S1024x1024 .f32)
    (r d : Fin 1024) :
    accOf i x0 x2 x3 x4 s (ix2 r d) = Scalar.select (Scalar.cmpi .eq (BitVec.ofNat 32 (i 1).val) 0#32) (0 : EReal) (s (ix2 r d))
        + ∑ k : Fin 1024, hid x0 x2 x3 r k * x4 (ix3 0 k d) := by
  rw [← total_apply i x0 x2 x3 x4 (by decide) (by decide) (by decide)]
  unfold accOf
  generalize half1 i x0 x2 x3 x4 s = v
  pointwise [k0_pay2]

theorem out_apply (i : grid0.Coords) (x0 : Vec Ideal S1x1024x1024 .bf16) (x1 : Vec Ideal S1x1024x1 .f32) (x2 x3 x4 : Vec Ideal S1x1024x1024 .f32) (s : Vec Ideal S1024x1024 .f32)
    (r d : Fin 1024) :
    outOf i x0 x1 x2 x3 x4 s (ix3 0 r d) = (Scalar.select (Scalar.cmpi .eq (BitVec.ofNat 32 (i 1).val) 0#32) (0 : EReal) (s (ix2 r d))
        + ∑ k : Fin 1024, hid x0 x2 x3 r k * x4 (ix3 0 k d)) * x1 (ix3 0 r 0) := by
  rw [← total_apply i x0 x2 x3 x4 (by decide) (by decide) (by decide)]
  unfold outOf
  generalize half1 i x0 x2 x3 x4 s = v
  pointwise [k0_pay3]

end Cert.ExpertIdeal.Hand

end
-- ==== Proof.Expert.Value.lean ====
/- The expert call's result array, and that it is the reference's. -/
module

public import proofs.«01_k».proof.Proof.Expert.Math
public import Idealize.ShloMosaic.Lib.Pipeline.ValueKit

@[expose] public section

set_option maxRecDepth 16384

noncomputable section

namespace Cert.ExpertIdeal.Hand

open Cert.ExpertIdeal Cert.ExpertIdeal.Gen
open Idealize.ShloMosaic Idealize.ShloMosaic.TcCoe Idealize.SL.Sem
open Idealize.ShloMosaic.Pipeline (Dat)

/-- The hidden unit of the whole problem: expert `e`, token `r`, hidden column `k` of 2048. -/
def unit (xs : Vec Ideal S16x1024x1024 .bf16) (wg wu : Vec Ideal S16x1024x2048 .f32) (e : Fin 16) (r : Fin 1024) (k : Fin 2048) : EReal :=
  act (∑ j : Fin 1024, xs (ix3 e r j) * wg (ix3 e j k)) * ∑ j : Fin 1024, xs (ix3 e r j) * wu (ix3 e j k)

/-- The feed-forward result: every hidden column, times the token's gate. -/
def ffn (xs : Vec Ideal S16x1024x1024 .bf16) (g : Vec Ideal S16x1024x1 .f32) (wg wu : Vec Ideal S16x1024x2048 .f32)
    (wd : Vec Ideal S16x2048x1024 .f32) : Vec Ideal S16x1024x1024 .bf16 := fun i =>
  (∑ k : Fin 2048, unit xs wg wu (i 0) (i 1) k * wd (ix3 (i 0) k (i 2))) * g (ix3 (i 0) (i 1) 0)

variable (m : (ℓ : Loc nD τ sig) → Buf (Elt Ideal) ℓ) (ρ : Dev nD → PrngReg)

theorem coord_fst : ∀ t : Fin cfg0.N, ((grid0.coords t) 1).val = t.val % 2 :=
  (by decide +kernel : ∀ t : Fin grid0.N, ((grid0.coords t) 1).val = t.val % 2)

theorem idx_0 : ∀ t : Fin cfg0.N, win0_0.index t = ![t.val / 2, 0, 0] := (by decide +kernel : ∀ t : Fin grid0.N, win0_0.index t = ![t.val / 2, 0, 0])
theorem idx_1 : ∀ t : Fin cfg0.N, win0_1.index t = ![t.val / 2, 0, 0] := (by decide +kernel : ∀ t : Fin grid0.N, win0_1.index t = ![t.val / 2, 0, 0])
theorem idx_2 : ∀ t : Fin cfg0.N, win0_2.index t = ![t.val / 2, 0, t.val % 2] := (by decide +kernel : ∀ t : Fin grid0.N, win0_2.index t = ![t.val / 2, 0, t.val % 2])
theorem idx_3 : ∀ t : Fin cfg0.N, win0_3.index t = ![t.val / 2, 0, t.val % 2] := (by decide +kernel : ∀ t : Fin grid0.N, win0_3.index t = ![t.val / 2, 0, t.val % 2])
theorem idx_4 : ∀ t : Fin cfg0.N, win0_4.index t = ![t.val / 2, t.val % 2, 0] := (by decide +kernel : ∀ t : Fin grid0.N, win0_4.index t = ![t.val / 2, t.val % 2, 0])
theorem idx_5 : ∀ t : Fin cfg0.N, win0_5.index t = ![t.val / 2, 0, 0] := (by decide +kernel : ∀ t : Fin grid0.N, win0_5.index t = ![t.val / 2, 0, 0])

abbrev XS (c : Dev nD) : Vec Ideal S16x1024x1024 .bf16 := m ((c : Thread nD τ).loc main_arg0)
abbrev GT (c : Dev nD) : Vec Ideal S16x1024x1 .f32 := m ((c : Thread nD τ).loc main_arg1)
abbrev WG (c : Dev nD) : Vec Ideal S16x1024x2048 .f32 := m ((c : Thread nD τ).loc main_arg2)
abbrev WU (c : Dev nD) : Vec Ideal S16x1024x2048 .f32 := m ((c : Thread nD τ).loc main_arg3)
abbrev WD (c : Dev nD) : Vec Ideal S16x2048x1024 .f32 := m ((c : Thread nD τ).loc main_arg4)

theorem blk_0 (c : Dev nD) (t : Fin cfg0.N) (e : Fin 16) (he : t.val / 2 = e.val) (r j : Fin 1024) :
    (iblk m c 0 t : Vec Ideal S1x1024x1024 .bf16) (ix3 0 r j) = XS m c (ix3 e r j) := by
  blk_ext [iblk, V, idx_0 t]
theorem blk_1 (c : Dev nD) (t : Fin cfg0.N) (e : Fin 16) (he : t.val / 2 = e.val) (r : Fin 1024) :
    (iblk m c 1 t : Vec Ideal S1x1024x1 .f32) (ix3 0 r 0) = GT m c (ix3 e r 0) := by
  blk_ext [iblk, V, idx_1 t]
theorem blk_2 (c : Dev nD) (t : Fin cfg0.N) (e : Fin 16) (he : t.val / 2 = e.val) (j k : Fin 1024) (q : Fin 2048) (hq : q.val = 1024 * (t.val % 2) + k.val) :
    (iblk m c 2 t : Vec Ideal S1x1024x1024 .f32) (ix3 0 j k) = WG m c (ix3 e j q) := by
  blk_ext [iblk, V, idx_2 t]
theorem blk_3 (c : Dev nD) (t : Fin cfg0.N) (e : Fin 16) (he : t.val / 2 = e.val) (j k : Fin 1024) (q : Fin 2048) (hq : q.val = 1024 * (t.val % 2) + k.val) :
    (iblk m c 3 t : Vec Ideal S1x1024x1024 .f32) (ix3 0 j k) = WU m c (ix3 e j q) := by
  blk_ext [iblk, V, idx_3 t]
theorem blk_4 (c : Dev nD) (t : Fin cfg0.N) (e : Fin 16) (he : t.val / 2 = e.val) (k d : Fin 1024) (q : Fin 2048) (hq : q.val = 1024 * (t.val % 2) + k.val) :
    (iblk m c 4 t : Vec Ideal S1x1024x1024 .f32) (ix3 0 k d) = WD m c (ix3 e q d) := by
  blk_ext [iblk, V, idx_4 t]

/-- One point's contribution, in the problem's coordinates. -/
theorem part_eq (c : Dev nD) (t : Fin cfg0.N) (e : Fin 16) (he : t.val / 2 = e.val) (r d k : Fin 1024) (q : Fin 2048) (hq : q.val = 1024 * (t.val % 2) + k.val) :
    hid (iblk m c 0 t) (iblk m c 2 t) (iblk m c 3 t) r k * (iblk m c 4 t : Vec Ideal S1x1024x1024 .f32) (ix3 0 k d)
      = unit (XS m c) (WG m c) (WU m c) e r q * WD m c (ix3 e q d) := by
  unfold hid unit
  simp only [blk_0 m c t e he, blk_2 m c t e he _ k q hq, blk_3 m c t e he _ k q hq, blk_4 m c t e he k d q hq]

theorem carried_pos (c : Dev nD) (n : ℕ) (h : n + 1 ≤ cfg0.N) :
    carried m c (n + 1) h = stepAcc m c ⟨n, h⟩ (carried m c n (Nat.le_of_lt h)) := rfl

/-- What an expert's second point leaves in the output block. -/
theorem out_odd (c : Dev nD) (t : Fin cfg0.N) (ht : t.val % 2 = 1) (e : Fin 16) (he : t.val / 2 = e.val) (r d : Fin 1024) :
    stepOut m c t (carried m c t.val (Nat.le_of_lt t.isLt)) (ix3 0 r d) = ffn (XS m c) (GT m c) (WG m c) (WU m c) (WD m c) (ix3 e r d) := by
  obtain ⟨n, hn⟩ := t
  obtain ⟨p, rfl⟩ : ∃ p, n = p + 1 := ⟨n - 1, by dsimp only at ht; omega⟩
  have hp : p < cfg0.N := Nat.lt_of_succ_lt hn
  dsimp only at ht he
  have hpe : p % 2 = 0 := by omega
  have hpd : p / 2 = e.val := by omega
  rw [carried_pos]
  unfold stepOut stepAcc
  rw [out_apply, acc_apply]
  rw [coord_fst ⟨p + 1, hn⟩, coord_fst ⟨p, hp⟩]
  dsimp only
  rw [ht, hpe]
  rw [show Scalar.cmpi .eq (BitVec.ofNat 32 1) 0#32 = 0#1 from by decide, show Scalar.cmpi .eq (BitVec.ofNat 32 0) 0#32 = 1#1 from by decide]
  simp only [show ∀ a b : EReal, Scalar.select 0#1 a b = b from fun _ _ => rfl, show ∀ a b : EReal, Scalar.select 1#1 a b = a from fun _ _ => rfl]
  unfold ffn
  rw [Fin.sum_univ_two_halves 1024 1024 rfl, zero_add]
  refine congrArg₂ (· * ·) (congrArg₂ (· + ·) (Finset.sum_congr rfl fun k _ => ?_) (Finset.sum_congr rfl fun k _ => ?_)) (blk_1 m c _ e he r)
  · exact part_eq m c ⟨p, hp⟩ e hpd r d k ⟨k.val, by omega⟩ (by dsimp only; omega)
  · exact part_eq m c ⟨p + 1, hn⟩ e he r d k ⟨1024 + k.val, by omega⟩ (by dsimp only; omega)

theorem final (c : Dev nD) : (dats m 0 c).arrAt 5 cfg0.N = ffn (XS m c) (GT m c) (WG m c) (WU m c) (WD m c) := by
  refine (dats m 0 c).arrAt_eq_of_covers 5 _ (by decide +kernel) fun t hf y => ?_
  blk_simp
  rw [after_5]
  have hm : t.val % 2 = 1 := (flush0_5 t).mp hf
  have hN : t.val < 32 := lt_of_lt_of_eq t.isLt (show cfg0.N = 32 from N_0)
  have hd : t.val / 2 < 16 := by omega
  have hx : ∀ r d : Fin 1024, (win0_5.blk t).view.emb (ix3 (0 : Fin 1) r d) = (ix3 (⟨t.val / 2, hd⟩ : Fin 16) r d : S16x1024x1024.Idx) := fun r d => by
    blk_ext [idx_5 t]
  change S1x1024x1024.Idx at y
  obtain ⟨r, d, rfl⟩ : ∃ r d : Fin 1024, y = ix3 (0 : Fin 1) r d :=
    ⟨y 1, y 2, (eq_ix3 y).trans (congrArg (fun q : Fin 1 => ix3 q (y 1) (y 2)) (Subsingleton.elim _ _))⟩
  rw [hx]
  exact out_odd m c t hm ⟨t.val / 2, hd⟩ rfl r d

/-- The whole call: the result array at `ffn` of the arguments, the arguments as they were. -/
theorem run_value : θ_run defs (onTc (τ := τ) (main (F := Ideal))) ⟨m, fun _ => 0, ρ⟩ fun r => ∀ c : Dev nD,
      r.2.mem ((c : Thread nD τ).loc main_v0) = ffn (XS m c) (GT m c) (WG m c) (WU m c) (WD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final m c), (h.2.1 c).1, (h.2.1 c).2.1, (h.2.1 c).2.2.1, (h.2.1 c).2.2.2.1, (h.2.1 c).2.2.2.2⟩)
    (θ_run_and ((θ_run defs _ _).mono (fun _ h => h.1) (run_grid m ρ)) (kept m ρ))

end Cert.ExpertIdeal.Hand

end
-- ==== Proof.Mixer.Scan.lean ====
module

public import proofs.«01_k».proof.Proof.Gen.MixerIdeal.Frame
public import proofs.«01_k».proof.Proof.Gen.MixerIdeal.Loops
public import Idealize.ShloMosaic.Lib.Tactic
public import Idealize.ShloMosaic.Lib.Exec
public import Idealize.ShloMosaic.Lib.Pipeline.Kit

@[expose] public section

noncomputable section

namespace Cert.MixerIdeal.Hand

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- A memref's buffer on core `c` held whole at some contents. -/
abbrev held (c : Dev nD) {sp : Space} {S : Shape} {e : EltTy} (M : Memref sig .tc sp S e) : sProp 𝕄 :=
  iprop(∃ f, M.view.loc (c : Thread nD τ) ↦[M.view.set]{fullShare} f)

section Trip

variable (c : Dev nD) (i : grid0.Coords) (arg1 : Memref sig .tc .vmem S2x256x1024 .f32) (harg1 : arg1.IsWhole) (arg2 : Memref sig .tc .vmem S6x8x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S2x512 .f32) (harg13 : arg13.IsWhole) (arg14 : Memref sig .tc .vmem S2x2x256x512 .f32) (harg14 : arg14.IsWhole) (arg15 : Memref sig .tc .hbm S1024x1024 .f32) (harg15 : arg15.IsWhole) (arg16 : Memref sig .tc .vmem S1024x128 .f32) (harg16 : arg16.IsWhole) (arg17 : Memref sig .tc .vmem S2x256x1024 .f32) (harg17 : arg17.IsWhole) (arg18 : Memref sig .tc .vmem S2x256x1024 .bf16) (harg18 : arg18.IsWhole) (arg19 : Memref sig .tc .vmem S2x16x256 .f32) (harg19 : arg19.IsWhole) (arg20 : Memref sig .tc .vmem S2x1x2x512 .f32) (harg20 : arg20.IsWhole) (arg21 : Memref sig .tc .vmem S2x1x2x4x128x128 .f32) (harg21 : arg21.IsWhole) (arg22 : Memref sig .tc .vmem S2x272x512 .f32) (harg22 : arg22.IsWhole) (arg23 : Memref sig .tc .vmem S2x256x512 .f32) (harg23 : arg23.IsWhole) (arg24 : Memref sig .tc .vmem S2x4x256x128 .f32) (harg24 : arg24.IsWhole) (arg25 : Memref sig .tc .vmem S2x4x256x128 .f32) (harg25 : arg25.IsWhole) (arg26 : Memref sig .tc .vmem S2x4x256x128 .f32) (harg26 : arg26.IsWhole) (arg27 : Memref sig .tc .vmem S2x4x256x128 .f32) (harg27 : arg27.IsWhole) (arg28 : Memref sig .tc .vmem S2x256x512 .f32) (harg28 : arg28.IsWhole) (arg29 : Memref sig .tc .vmem S2x4x256x128 .f32) (harg29 : arg29.IsWhole) (arg30 : Memref sig .tc .vmem S2x4x256x128 .f32) (harg30 : arg30.IsWhole) (arg31 : Memref sig .tc .vmem S2x4x256x128 .f32) (harg31 : arg31.IsWhole) (arg32 : Memref sig .tc .vmem S2x4x256x128 .f32) (harg32 : arg32.IsWhole) (arg33 : Memref sig .tc .vmem S2x256x512 .f32) (harg33 : arg33.IsWhole) (arg34 : Memref sig .tc .vmem S1024x1024 .f32) (harg34 : arg34.IsWhole) (arg35 : DmaSems sig S1) (v0 : BitVec 1) (v1200 : IVec S8x128 32) (v1201 : FVec F S1x128 .f32) (v1202 : FVec F S1x128 .f32) (v1203 : FVec F S1x128 .f32) (v1204 : FVec F S1x128 .f32) (v1205 : FVec F S1x128 .f32) (v1206 : FVec F S1x128 .f32) (v1207 : FVec F S1x128 .f32) (v1208 : FVec F S1x128 .f32) (v1209 : FVec F S1x128 .f32) (v1210 : FVec F S1x128 .f32) (cst_679 : F .f32)

set_option sl_exec.squeezeSlice true in
/-- One trip of the scan: from the four gate and state buffers at anything, to the same. -/
theorem trip (k : Fin k0_t1_loop.trips) (acc : FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32) :
    iprop(held (F := F) c arg24 ∗ held (F := F) c arg25 ∗ held (F := F) c arg26 ∗ held (F := F) c arg27)
      ⊢ wp frame (wpE (defs₀ (F := F)) Variants.none c none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 v0 v1200 v1201 v1202 v1203 v1204 v1205 v1206 v1207 v1208 v1209 v1210 cst_679 k acc)
          (fun _ => iprop(held (F := F) c arg24 ∗ held (F := F) c arg25 ∗ held (F := F) c arg26 ∗ held (F := F) c arg27)) := by
  unfold k0_t1_body held
  iintro ⟨⟨%f24, H24⟩, ⟨%f25, H25⟩, ⟨%f26, H26⟩, ⟨%f27, H27⟩⟩
  sl_exec_parts!
  sl_step
  isplitl [H24]; · iexists _; iexact H24
  isplitl [H25]; · iexists _; iexact H25
  isplitl [H26]; · iexists _; iexact H26
  iexists _; iexact H27

end Trip

/-- Zeros, for the values the loop's body is given and does not use. -/
abbrev zeros : FVec F S1x128 .f32 := fun _ => Scalar.ofBits .f32 0x00000000#32

/-- Before and after every trip of the scan the four buffers are held at some contents. -/
@[sl_loop, instance_reducible] def scanInv (c : Dev nD) (i : grid0.Coords) (arg1 : Memref sig .tc .vmem S2x256x1024 .f32) (harg1 : arg1.IsWhole) (arg2 : Memref sig .tc .vmem S6x8x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S2x512 .f32) (harg13 : arg13.IsWhole) (arg14 : Memref sig .tc .vmem S2x2x256x512 .f32) (harg14 : arg14.IsWhole) (arg15 : Memref sig .tc .hbm S1024x1024 .f32) (harg15 : arg15.IsWhole) (arg16 : Memref sig .tc .vmem S1024x128 .f32) (harg16 : arg16.IsWhole) (arg17 : Memref sig .tc .vmem S2x256x1024 .f32) (harg17 : arg17.IsWhole) (arg18 : Memref sig .tc .vmem S2x256x1024 .bf16) (harg18 : arg18.IsWhole) (arg19 : Memref sig .tc .vmem S2x16x256 .f32) (harg19 : arg19.IsWhole) (arg20 : Memref sig .tc .vmem S2x1x2x512 .f32) (harg20 : arg20.IsWhole) (arg21 : Memref sig .tc .vmem S2x1x2x4x128x128 .f32) (harg21 : arg21.IsWhole) (arg22 : Memref sig .tc .vmem S2x272x512 .f32) (harg22 : arg22.IsWhole) (arg23 : Memref sig .tc .vmem S2x256x512 .f32) (harg23 : arg23.IsWhole) (arg24 : Memref sig .tc .vmem S2x4x256x128 .f32) (harg24 : arg24.IsWhole) (arg25 : Memref sig .tc .vmem S2x4x256x128 .f32) (harg25 : arg25.IsWhole) (arg26 : Memref sig .tc .vmem S2x4x256x128 .f32) (harg26 : arg26.IsWhole) (arg27 : Memref sig .tc .vmem S2x4x256x128 .f32) (harg27 : arg27.IsWhole) (arg28 : Memref sig .tc .vmem S2x256x512 .f32) (harg28 : arg28.IsWhole) (arg29 : Memref sig .tc .vmem S2x4x256x128 .f32) (harg29 : arg29.IsWhole) (arg30 : Memref sig .tc .vmem S2x4x256x128 .f32) (harg30 : arg30.IsWhole) (arg31 : Memref sig .tc .vmem S2x4x256x128 .f32) (harg31 : arg31.IsWhole) (arg32 : Memref sig .tc .vmem S2x4x256x128 .f32) (harg32 : arg32.IsWhole) (arg33 : Memref sig .tc .vmem S2x256x512 .f32) (harg33 : arg33.IsWhole) (arg34 : Memref sig .tc .vmem S1024x1024 .f32) (harg34 : arg34.IsWhole) (arg35 : DmaSems sig S1) (v1200 : IVec S8x128 32) (init : FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 0#1 v1200 zeros zeros zeros zeros zeros zeros zeros zeros zeros zeros (Scalar.ofBits .f32 0x00000000#32) init where
  inv _ _ := iprop(held (F := F) c arg24 ∗ held (F := F) c arg25 ∗ held (F := F) c arg26 ∗ held (F := F) c arg27)
  step k acc := trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 0#1 v1200 zeros zeros zeros zeros zeros zeros zeros zeros zeros zeros (Scalar.ofBits .f32 0x00000000#32) k acc

end Cert.MixerIdeal.Hand

end
-- ==== Proof.Mixer.First.lean ====
module

public import proofs.«01_k».proof.Proof.Gen.MixerIdeal.Frame
public import proofs.«01_k».proof.Proof.Gen.MixerIdeal.Loops
public import proofs.«01_k».proof.Proof.Mixer.Scan
public import Idealize.ShloMosaic.Lib.Tactic
public import Idealize.ShloMosaic.Lib.Exec
public import Idealize.ShloMosaic.Lib.Pipeline.Kit

@[expose] public section

noncomputable section

namespace Cert.MixerIdeal.Hand

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option sl_exec.squeezeSlice true in
set_option maxHeartbeats 4000000 in
/-- The first point of the body, which starts the copy of the output projection and waits for it: the inputs are kept, the
    final retention states end at the pieces the run finds, everything else at some contents. -/
noncomputable def runFirst (c : Dev nD) (i : grid0.Coords) (arg1 : Memref sig .tc .vmem S2x256x1024 .f32) (harg1 : arg1.IsWhole) (arg2 : Memref sig .tc .vmem S6x8x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S2x512 .f32) (harg13 : arg13.IsWhole) (arg14 : Memref sig .tc .vmem S2x2x256x512 .f32) (harg14 : arg14.IsWhole) (arg16 : Memref sig .tc .vmem S1024x128 .f32) (harg16 : arg16.IsWhole) (arg17 : Memref sig .tc .vmem S2x256x1024 .f32) (harg17 : arg17.IsWhole) (arg18 : Memref sig .tc .vmem S2x256x1024 .bf16) (harg18 : arg18.IsWhole) (arg19 : Memref sig .tc .vmem S2x16x256 .f32) (harg19 : arg19.IsWhole) (arg20 : Memref sig .tc .vmem S2x1x2x512 .f32) (harg20 : arg20.IsWhole) (arg21 : Memref sig .tc .vmem S2x1x2x4x128x128 .f32) (harg21 : arg21.IsWhole) (arg22 : Memref sig .tc .vmem S2x272x512 .f32) (harg22 : arg22.IsWhole) (arg23 : Memref sig .tc .vmem S2x256x512 .f32) (harg23 : arg23.IsWhole) (arg24 : Memref sig .tc .vmem S2x4x256x128 .f32) (harg24 : arg24.IsWhole) (arg25 : Memref sig .tc .vmem S2x4x256x128 .f32) (harg25 : arg25.IsWhole) (arg26 : Memref sig .tc .vmem S2x4x256x128 .f32) (harg26 : arg26.IsWhole) (arg27 : Memref sig .tc .vmem S2x4x256x128 .f32) (harg27 : arg27.IsWhole) (arg28 : Memref sig .tc .vmem S2x256x512 .f32) (harg28 : arg28.IsWhole) (arg29 : Memref sig .tc .vmem S2x4x256x128 .f32) (harg29 : arg29.IsWhole) (arg30 : Memref sig .tc .vmem S2x4x256x128 .f32) (harg30 : arg30.IsWhole) (arg31 : Memref sig .tc .vmem S2x4x256x128 .f32) (harg31 : arg31.IsWhole) (arg32 : Memref sig .tc .vmem S2x4x256x128 .f32) (harg32 : arg32.IsWhole) (arg33 : Memref sig .tc .vmem S2x256x512 .f32) (harg33 : arg33.IsWhole)
    (x1 : Vec F S2x256x1024 .f32) (x2 : Vec F S6x8x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (x9 : Vec F S4x512 .f32) (x10 : Vec F S1x512 .f32) (x11 : Vec F S2x512 .f32) (x12 : Vec F S2x512 .f32) (x13 : Vec F S2x512 .f32) (x14 : Vec F S2x2x256x512 .f32) (x16 : Vec F S1024x128 .f32)
    (hc : Scalar.cmpi .ne (Scalar.extui (Scalar.cmpi .eq (BitVec.ofNat 32 (i 0).val) 0#32) : BitVec 32) 0#32 = 1#1) :
    { L : List (View.Piece (Elt F) S2x1x2x4x128x128 .f32) //
      ∀ (w : Buf (Elt F) ((Memref.whole main_arg13 : Memref sig .tc .hbm S1024x1024 .f32).view.loc (c : Thread nD τ))) (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg16 fullShare x16 ∗ held (F := F) c arg17 ∗ held (F := F) c arg18 ∗ held (F := F) c arg19 ∗ held (F := F) c arg20 ∗ held (F := F) c arg21 ∗ held (F := F) c arg22 ∗ held (F := F) c arg23 ∗ held (F := F) c arg24 ∗ held (F := F) c arg25 ∗ held (F := F) c arg26 ∗ held (F := F) c arg27 ∗ held (F := F) c arg28 ∗ held (F := F) c arg29 ∗ held (F := F) c arg30 ∗ held (F := F) c arg31 ∗ held (F := F) c arg32 ∗ held (F := F) c arg33 ∗ held (F := F) c (Memref.whole cc0_scratch12 : Memref sig .tc .vmem S1024x1024 .f32) ∗ semVal ((c : Thread nD τ), SemLoc.dma 26) 0 ∗ ((Memref.whole main_arg13 : Memref sig .tc .hbm S1024x1024 .f32).view.loc (c : Thread nD τ) ↦{fullShare} w) ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg16 fullShare x16 ∗ held (F := F) c arg17 ∗ held (F := F) c arg18 ∗ held (F := F) c arg19 ∗ held (F := F) c arg20 ∗ (∃ f, arg21.view.loc (c : Thread nD τ) ↦[arg21.view.set]{fullShare} arg21.view.writes (Elt F) f L) ∗ held (F := F) c arg22 ∗ held (F := F) c arg23 ∗ held (F := F) c arg24 ∗ held (F := F) c arg25 ∗ held (F := F) c arg26 ∗ held (F := F) c arg27 ∗ held (F := F) c arg28 ∗ held (F := F) c arg29 ∗ held (F := F) c arg30 ∗ held (F := F) c arg31 ∗ held (F := F) c arg32 ∗ held (F := F) c arg33 ∗ held (F := F) c (Memref.whole cc0_scratch12 : Memref sig .tc .vmem S1024x1024 .f32) ∗ semVal ((c : Thread nD τ), SemLoc.dma 26) 0 ∗ ((Memref.whole main_arg13 : Memref sig .tc .hbm S1024x1024 .f32).view.loc (c : Thread nD τ) ↦{fullShare} w) ∗ (∃ W', owes (c : Thread nD τ) 0 W')) -∗ K ⟨⟩))
          ⊢ wp frame (wpE (defs₀ (F := F)) Variants.none c none) Set.univ
              (cc0_mixer_context i arg1 harg1 arg2 harg2 arg3 harg3 arg4 harg4 arg5 harg5 arg6 harg6 arg7 harg7 arg8 harg8 arg9 harg9 arg10 harg10 arg11 harg11 arg12 harg12 arg13 harg13 arg14 harg14 (Memref.whole main_arg13) (Memref.isWhole_whole _) arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (Memref.whole cc0_scratch12) (Memref.isWhole_whole _) cc0_scratch13) K } := by
  refine ⟨?_, fun w W K => ?run⟩
  case run =>
    unfold owns held
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, Hs, Hw, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16
    sl_exec_parts! (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H16]
    · iexists _; isplitr; · ipureintro; exact harg16.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [Hs]; · iexact Hs
    isplitl [Hw]; · iexact Hw
    iexists _; iexact HW

end Cert.MixerIdeal.Hand

end
-- ==== Proof.Mixer.Later.lean ====
module

public import proofs.«01_k».proof.Proof.Gen.MixerIdeal.Frame
public import proofs.«01_k».proof.Proof.Gen.MixerIdeal.Loops
public import proofs.«01_k».proof.Proof.Mixer.Scan
public import Idealize.ShloMosaic.Lib.Tactic
public import Idealize.ShloMosaic.Lib.Exec
public import Idealize.ShloMosaic.Lib.Pipeline.Kit

@[expose] public section

noncomputable section

namespace Cert.MixerIdeal.Hand

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option sl_exec.squeezeSlice true in
set_option maxHeartbeats 4000000 in
/-- A later point of the body, which copies nothing: the inputs are kept, the final retention states end at the pieces the
    run finds, everything else at some contents. -/
noncomputable def runLater (c : Dev nD) (i : grid0.Coords) (arg1 : Memref sig .tc .vmem S2x256x1024 .f32) (harg1 : arg1.IsWhole) (arg2 : Memref sig .tc .vmem S6x8x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S2x512 .f32) (harg13 : arg13.IsWhole) (arg14 : Memref sig .tc .vmem S2x2x256x512 .f32) (harg14 : arg14.IsWhole) (arg16 : Memref sig .tc .vmem S1024x128 .f32) (harg16 : arg16.IsWhole) (arg17 : Memref sig .tc .vmem S2x256x1024 .f32) (harg17 : arg17.IsWhole) (arg18 : Memref sig .tc .vmem S2x256x1024 .bf16) (harg18 : arg18.IsWhole) (arg19 : Memref sig .tc .vmem S2x16x256 .f32) (harg19 : arg19.IsWhole) (arg20 : Memref sig .tc .vmem S2x1x2x512 .f32) (harg20 : arg20.IsWhole) (arg21 : Memref sig .tc .vmem S2x1x2x4x128x128 .f32) (harg21 : arg21.IsWhole) (arg22 : Memref sig .tc .vmem S2x272x512 .f32) (harg22 : arg22.IsWhole) (arg23 : Memref sig .tc .vmem S2x256x512 .f32) (harg23 : arg23.IsWhole) (arg24 : Memref sig .tc .vmem S2x4x256x128 .f32) (harg24 : arg24.IsWhole) (arg25 : Memref sig .tc .vmem S2x4x256x128 .f32) (harg25 : arg25.IsWhole) (arg26 : Memref sig .tc .vmem S2x4x256x128 .f32) (harg26 : arg26.IsWhole) (arg27 : Memref sig .tc .vmem S2x4x256x128 .f32) (harg27 : arg27.IsWhole) (arg28 : Memref sig .tc .vmem S2x256x512 .f32) (harg28 : arg28.IsWhole) (arg29 : Memref sig .tc .vmem S2x4x256x128 .f32) (harg29 : arg29.IsWhole) (arg30 : Memref sig .tc .vmem S2x4x256x128 .f32) (harg30 : arg30.IsWhole) (arg31 : Memref sig .tc .vmem S2x4x256x128 .f32) (harg31 : arg31.IsWhole) (arg32 : Memref sig .tc .vmem S2x4x256x128 .f32) (harg32 : arg32.IsWhole) (arg33 : Memref sig .tc .vmem S2x256x512 .f32) (harg33 : arg33.IsWhole)
    (x1 : Vec F S2x256x1024 .f32) (x2 : Vec F S6x8x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (x9 : Vec F S4x512 .f32) (x10 : Vec F S1x512 .f32) (x11 : Vec F S2x512 .f32) (x12 : Vec F S2x512 .f32) (x13 : Vec F S2x512 .f32) (x14 : Vec F S2x2x256x512 .f32) (x16 : Vec F S1024x128 .f32)
    (hc : Scalar.cmpi .ne (Scalar.extui (Scalar.cmpi .eq (BitVec.ofNat 32 (i 0).val) 0#32) : BitVec 32) 0#32 ≠ 1#1) :
    { L : List (View.Piece (Elt F) S2x1x2x4x128x128 .f32) //
      ∀ (w : Buf (Elt F) ((Memref.whole main_arg13 : Memref sig .tc .hbm S1024x1024 .f32).view.loc (c : Thread nD τ))) (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg16 fullShare x16 ∗ held (F := F) c arg17 ∗ held (F := F) c arg18 ∗ held (F := F) c arg19 ∗ held (F := F) c arg20 ∗ held (F := F) c arg21 ∗ held (F := F) c arg22 ∗ held (F := F) c arg23 ∗ held (F := F) c arg24 ∗ held (F := F) c arg25 ∗ held (F := F) c arg26 ∗ held (F := F) c arg27 ∗ held (F := F) c arg28 ∗ held (F := F) c arg29 ∗ held (F := F) c arg30 ∗ held (F := F) c arg31 ∗ held (F := F) c arg32 ∗ held (F := F) c arg33 ∗ held (F := F) c (Memref.whole cc0_scratch12 : Memref sig .tc .vmem S1024x1024 .f32) ∗ semVal ((c : Thread nD τ), SemLoc.dma 26) 0 ∗ ((Memref.whole main_arg13 : Memref sig .tc .hbm S1024x1024 .f32).view.loc (c : Thread nD τ) ↦{fullShare} w) ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg16 fullShare x16 ∗ held (F := F) c arg17 ∗ held (F := F) c arg18 ∗ held (F := F) c arg19 ∗ held (F := F) c arg20 ∗ (∃ f, arg21.view.loc (c : Thread nD τ) ↦[arg21.view.set]{fullShare} arg21.view.writes (Elt F) f L) ∗ held (F := F) c arg22 ∗ held (F := F) c arg23 ∗ held (F := F) c arg24 ∗ held (F := F) c arg25 ∗ held (F := F) c arg26 ∗ held (F := F) c arg27 ∗ held (F := F) c arg28 ∗ held (F := F) c arg29 ∗ held (F := F) c arg30 ∗ held (F := F) c arg31 ∗ held (F := F) c arg32 ∗ held (F := F) c arg33 ∗ held (F := F) c (Memref.whole cc0_scratch12 : Memref sig .tc .vmem S1024x1024 .f32) ∗ semVal ((c : Thread nD τ), SemLoc.dma 26) 0 ∗ ((Memref.whole main_arg13 : Memref sig .tc .hbm S1024x1024 .f32).view.loc (c : Thread nD τ) ↦{fullShare} w) ∗ (∃ W', owes (c : Thread nD τ) 0 W')) -∗ K ⟨⟩))
          ⊢ wp frame (wpE (defs₀ (F := F)) Variants.none c none) Set.univ
              (cc0_mixer_context i arg1 harg1 arg2 harg2 arg3 harg3 arg4 harg4 arg5 harg5 arg6 harg6 arg7 harg7 arg8 harg8 arg9 harg9 arg10 harg10 arg11 harg11 arg12 harg12 arg13 harg13 arg14 harg14 (Memref.whole main_arg13) (Memref.isWhole_whole _) arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (Memref.whole cc0_scratch12) (Memref.isWhole_whole _) cc0_scratch13) K } := by
  refine ⟨?_, fun w W K => ?run⟩
  case run =>
    unfold owns held
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, Hs, Hw, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16
    sl_exec_parts! (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H16]
    · iexists _; isplitr; · ipureintro; exact harg16.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [Hs]; · iexact Hs
    isplitl [Hw]; · iexact Hw
    iexists _; iexact HW

end Cert.MixerIdeal.Hand

end
-- ==== Proof.Mixer.Launch.lean ====
module

public import proofs.«01_k».proof.Proof.Mixer.First
public import proofs.«01_k».proof.Proof.Mixer.Later
public import Idealize.ShloMosaic.Lib.Claim
public import Idealize.ShloMosaic.Lib.Pipeline.Frame

@[expose] public section

set_option maxRecDepth 16384

noncomputable section

namespace Cert.MixerIdeal.Hand

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the launch hands the body besides its windows: one semaphore, and the projection weights it copies itself -/

abbrev osem0 : Fin 1 → SemLoc sig := fun _ => SemLoc.dma 26
theorem ownSemFacts0 : Pipeline.OwnSemFacts spec0 osem0 := by decide
theorem own_sem (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 26) 0) := by
  rw [Pipeline.ownSems0_eq_of_list c osem0 [0] (by decide) (by decide)]; rfl
def H0 : Finset (Ref sig .tc) := {main_arg13}
theorem H0_sub : H0 ⊆ Pipeline.restRefs sig spec0 := by decide
theorem hbm_pts (c : Dev nD) :
    (bigSep H0 (fun b => ((c : Thread nD τ).loc b) ↦{fullShare} V m c b) : sProp 𝕄)
      = iprop(((Memref.whole main_arg13 : Memref sig .tc .hbm S1024x1024 .f32).view.loc (c : Thread nD τ)) ↦{fullShare} V m c main_arg13) := by
  rw [BI.bigSep_eq_bigSepL_of_eq [main_arg13] (by decide) (by decide)]; rfl

/-- A whole buffer at some contents. -/
theorem held_whole (c : Dev nD) (b : Ref sig .tc) :
    (held (F := F) c (Memref.whole b) : sProp 𝕄) = iprop(∃ f : Buf (Elt F) ((c : Thread nD τ).loc b), ((c : Thread nD τ).loc b) ↦{fullShare} f) := by
  unfold held; rw [show (Memref.whole b).view.set = Finset.univ from View.set_whole b]

theorem sep_eq {A A' B B' : sProp 𝕄} (h : A = A') (k : B = B') : (iprop(A ∗ B) : sProp 𝕄) = iprop(A' ∗ B') := by rw [h, k]

/-- Between the points: the scratch buffers at some contents, the generator register, the semaphore at zero, the weights. -/
theorem between (c : Dev nD) :
    (Pipeline.ΦD osem0 spec0 H0 (V m) c : sProp 𝕄)
      = iprop(iprop(held (F := F) c (Memref.whole cc0_scratch0) ∗ held (F := F) c (Memref.whole cc0_scratch1) ∗ held (F := F) c (Memref.whole cc0_scratch2) ∗ held (F := F) c (Memref.whole cc0_scratch3) ∗ held (F := F) c (Memref.whole cc0_scratch4) ∗ held (F := F) c (Memref.whole cc0_scratch5) ∗ held (F := F) c (Memref.whole cc0_scratch6) ∗ held (F := F) c (Memref.whole cc0_scratch7) ∗ held (F := F) c (Memref.whole cc0_scratch8) ∗ held (F := F) c (Memref.whole cc0_scratch9) ∗ held (F := F) c (Memref.whole cc0_scratch10) ∗ held (F := F) c (Memref.whole cc0_scratch11) ∗ held (F := F) c (Memref.whole cc0_scratch12)) ∗ (∃ r, prngReg c r)
          ∗ iprop(semVal ((c : Thread nD τ), SemLoc.dma 26) 0)
          ∗ iprop(((Memref.whole main_arg13 : Memref sig .tc .hbm S1024x1024 .f32).view.loc (c : Thread nD τ)) ↦{fullShare} V m c main_arg13)) := by
  rw [Pipeline.ΦD_eq, scopedRest0_eq, own_sem, hbm_pts]
  exact sep_eq (sep_eq (held_whole c cc0_scratch0).symm (sep_eq (held_whole c cc0_scratch1).symm (sep_eq (held_whole c cc0_scratch2).symm (sep_eq (held_whole c cc0_scratch3).symm (sep_eq (held_whole c cc0_scratch4).symm (sep_eq (held_whole c cc0_scratch5).symm (sep_eq (held_whole c cc0_scratch6).symm (sep_eq (held_whole c cc0_scratch7).symm (sep_eq (held_whole c cc0_scratch8).symm (sep_eq (held_whole c cc0_scratch9).symm (sep_eq (held_whole c cc0_scratch10).symm (sep_eq (held_whole c cc0_scratch11).symm (held_whole c cc0_scratch12).symm)))))))))))) rfl

/-! ## The data -/

/-- The stores to the final retention states at a point. -/
def pieces (c : Dev nD) (t : Fin cfg0.N) : List (View.Piece (Elt F) S2x1x2x4x128x128 .f32) :=
  if h : Scalar.cmpi .ne (Scalar.extui (Scalar.cmpi .eq (BitVec.ofNat 32 (grid0.coords t 0).val) 0#32) : BitVec 32) 0#32 = 1#1 then
    (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).1
  else
    (runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).1

abbrev VO : View sig .tc .vmem S2x1x2x4x128x128 .f32 := (win0_19.stage ⟨0, by decide⟩).view

/-- What a point leaves in the block of the final retention states. -/
def lastStates (c : Dev nD) (t : Fin cfg0.N) : Vec F S2x1x2x4x128x128 .f32 :=
  VO.read (Elt F) (VO.writes (Elt F) VO.junk (pieces m c t))

theorem first_cover (c : Dev nD) (t : Fin cfg0.N) (h : Scalar.cmpi .ne (Scalar.extui (Scalar.cmpi .eq (BitVec.ofNat 32 (grid0.coords t 0).val) 0#32) : BitVec 32) 0#32 = 1#1) (y : S2x1x2x4x128x128.Idx) :
    ∃ p ∈ (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).1, y ∈ p.1.set :=
  View.cover_of_tiledL _ ![1, 1, 1, 1, 128, 128] (by sl_kernel_rfl) y

theorem later_cover (c : Dev nD) (t : Fin cfg0.N) (h : ¬ Scalar.cmpi .ne (Scalar.extui (Scalar.cmpi .eq (BitVec.ofNat 32 (grid0.coords t 0).val) 0#32) : BitVec 32) 0#32 = 1#1) (y : S2x1x2x4x128x128.Idx) :
    ∃ p ∈ (runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).1, y ∈ p.1.set :=
  View.cover_of_tiledL _ ![1, 1, 1, 1, 128, 128] (by sl_kernel_rfl) y

/-- The outputs nothing here speaks of: all but the final retention states. -/
def forgets0 : Fin 20 → Bool := fun w => decide (15 ≤ w.val ∧ w.val ≤ 18)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => lastStates m c t
    | ⟨n + 20, h⟩ => absurd h (Nat.not_lt_of_le (Nat.le_add_left 20 n))
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_19 (c : Dev nD) (t : Fin cfg0.N) : (dats m 0 c).after 19 t = lastStates m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)

/-- What the body is given at a point, -/
def given (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare ((dats m 0 c).before 19 t d)))

/-- and what it gives back. -/
def returned (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ owns (c : Thread nD τ) (win0_19.stage (cfg0.slots t 19)) fullShare ((dats m 0 c).after 19 t))

/-- A buffer owned at something is held at something, -/
theorem held_of_owns {sp : Space} {s : Shape} {e : EltTy} (c : Dev nD) (M : Memref sig .tc sp s e) (X : Vec F s e) :
    (owns (c : Thread nD τ) M fullShare X : sProp 𝕄) ⊢ held (F := F) c M := by
  unfold owns held
  iintro ⟨%f, -, H⟩
  iexists f; iexact H

/-- and conversely. -/
theorem owns_of_held {sp : Space} {s : Shape} {e : EltTy} (c : Dev nD) (M : Memref sig .tc sp s e) :
    (held (F := F) c M : sProp 𝕄) ⊢ ∃ X, owns (c : Thread nD τ) M fullShare X := by
  unfold owns held
  iintro ⟨%f, H⟩
  iexists M.view.read (Elt F) f; iexists f; isplitr; · ipureintro; rfl
  iexact H

/-- The states' block after the stores of a covering list. -/
theorem owns_of_pieces (c : Dev nD) (M : Memref sig .tc .vmem S2x1x2x4x128x128 .f32) (L : List (View.Piece (Elt F) S2x1x2x4x128x128 .f32))
    (h : ∀ y : S2x1x2x4x128x128.Idx, ∃ p ∈ L, y ∈ p.1.set) :
    (iprop(∃ f, M.view.loc (c : Thread nD τ) ↦[M.view.set]{fullShare} M.view.writes (Elt F) f L) : sProp 𝕄)
      ⊢ owns (c : Thread nD τ) M fullShare (VO.read (Elt F) (VO.writes (Elt F) VO.junk L)) := by
  unfold owns
  iintro ⟨%f, H⟩
  iexists _; isplitr; swap; · iexact H
  ipureintro; exact View.read_writes_of_cover _ _ _ _ _ h

set_option maxHeartbeats 2000000 in
theorem sound_first (c : Dev nD) (t : Fin cfg0.N) (h : Scalar.cmpi .ne (Scalar.extui (Scalar.cmpi .eq (BitVec.ofNat 32 (grid0.coords t 0).val) 0#32) : BitVec 32) 0#32 = 1#1) :
    given m c t ⊢ wp frame (wpE (defs₀ (F := F)) Variants.none c none) Set.univ (bodyAt0 t) (fun _ => returned m c t) := by
  unfold given returned bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, between]
  unfold Dat.owesAt Pipeline.owesWithin
  rw [show (dats m 0 c).owed t.castSucc = 0 from rfl]
  simp only [before_0, before_1, before_2, before_3, before_4, before_5, before_6, before_7, before_8, before_9, before_10, before_11, before_12, before_13, before_14]
  rw [after_0, after_1, after_2, after_3, after_4, after_5, after_6, after_7, after_8, after_9, after_10, after_11, after_12, after_13, after_14, after_19, show lastStates m c t = VO.read (Elt F) (VO.writes (Elt F) VO.junk (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).1) from by unfold lastStates pieces; rw [dif_pos h]]
  iintro ⟨⟨⟨S0, S1, S2, S3, S4, S5, S6, S7, S8, S9, S10, S11, S12⟩, Hg, Hs, Hw⟩, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩, ⟨%d17, W17⟩, ⟨%d18, W18⟩, ⟨%d19, W19⟩⟩
  iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).2 (V m c main_arg13) W _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iapply (held_of_owns (F := F) c (win0_15.stage (cfg0.slots t 15)) _); iexact W15
  isplitl [W16]; · iapply (held_of_owns (F := F) c (win0_16.stage (cfg0.slots t 16)) _); iexact W16
  isplitl [W17]; · iapply (held_of_owns (F := F) c (win0_17.stage (cfg0.slots t 17)) _); iexact W17
  isplitl [W18]; · iapply (held_of_owns (F := F) c (win0_18.stage (cfg0.slots t 18)) _); iexact W18
  isplitl [W19]; · iapply (held_of_owns (F := F) c (win0_19.stage (cfg0.slots t 19)) _); iexact W19
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [Hs]; · iexact Hs
  isplitl [Hw]; · iexact Hw
  isplitl [HO]; · iexact HO
  iintro ⟨W0, W1, W2, W3, W4, W5, W6, W7, W8, W9, W10, W11, W12, W13, W14, W15, W16, W17, W18, W19, S0, S1, S2, S3, S4, S5, S6, S7, S8, S9, S10, S11, S12, Hs, Hw, ⟨%W', HO⟩⟩
  isplitl [S0 S1 S2 S3 S4 S5 S6 S7 S8 S9 S10 S11 S12 Hg Hs Hw]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hg]; · iexact Hg
    isplitl [Hs]; · iexact Hs
    iexact Hw
  isplitl [HO]
  · iexists W'; isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iapply (owns_of_held (F := F) c (win0_15.stage (cfg0.slots t 15))); iexact W15
  isplitl [W16]; · iapply (owns_of_held (F := F) c (win0_16.stage (cfg0.slots t 16))); iexact W16
  isplitl [W17]; · iapply (owns_of_held (F := F) c (win0_17.stage (cfg0.slots t 17))); iexact W17
  isplitl [W18]; · iapply (owns_of_held (F := F) c (win0_18.stage (cfg0.slots t 18))); iexact W18
  iapply (owns_of_pieces (F := F) c (win0_19.stage (cfg0.slots t 19)) _ (first_cover m c t h)); iexact W19

set_option maxHeartbeats 2000000 in
theorem sound_later (c : Dev nD) (t : Fin cfg0.N) (h : ¬ Scalar.cmpi .ne (Scalar.extui (Scalar.cmpi .eq (BitVec.ofNat 32 (grid0.coords t 0).val) 0#32) : BitVec 32) 0#32 = 1#1) :
    given m c t ⊢ wp frame (wpE (defs₀ (F := F)) Variants.none c none) Set.univ (bodyAt0 t) (fun _ => returned m c t) := by
  unfold given returned bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, between]
  unfold Dat.owesAt Pipeline.owesWithin
  rw [show (dats m 0 c).owed t.castSucc = 0 from rfl]
  simp only [before_0, before_1, before_2, before_3, before_4, before_5, before_6, before_7, before_8, before_9, before_10, before_11, before_12, before_13, before_14]
  rw [after_0, after_1, after_2, after_3, after_4, after_5, after_6, after_7, after_8, after_9, after_10, after_11, after_12, after_13, after_14, after_19, show lastStates m c t = VO.read (Elt F) (VO.writes (Elt F) VO.junk (runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).1) from by unfold lastStates pieces; rw [dif_neg h]]
  iintro ⟨⟨⟨S0, S1, S2, S3, S4, S5, S6, S7, S8, S9, S10, S11, S12⟩, Hg, Hs, Hw⟩, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩, ⟨%d17, W17⟩, ⟨%d18, W18⟩, ⟨%d19, W19⟩⟩
  iapply ((runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) h).2 (V m c main_arg13) W _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iapply (held_of_owns (F := F) c (win0_15.stage (cfg0.slots t 15)) _); iexact W15
  isplitl [W16]; · iapply (held_of_owns (F := F) c (win0_16.stage (cfg0.slots t 16)) _); iexact W16
  isplitl [W17]; · iapply (held_of_owns (F := F) c (win0_17.stage (cfg0.slots t 17)) _); iexact W17
  isplitl [W18]; · iapply (held_of_owns (F := F) c (win0_18.stage (cfg0.slots t 18)) _); iexact W18
  isplitl [W19]; · iapply (held_of_owns (F := F) c (win0_19.stage (cfg0.slots t 19)) _); iexact W19
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [Hs]; · iexact Hs
  isplitl [Hw]; · iexact Hw
  isplitl [HO]; · iexact HO
  iintro ⟨W0, W1, W2, W3, W4, W5, W6, W7, W8, W9, W10, W11, W12, W13, W14, W15, W16, W17, W18, W19, S0, S1, S2, S3, S4, S5, S6, S7, S8, S9, S10, S11, S12, Hs, Hw, ⟨%W', HO⟩⟩
  isplitl [S0 S1 S2 S3 S4 S5 S6 S7 S8 S9 S10 S11 S12 Hg Hs Hw]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hg]; · iexact Hg
    isplitl [Hs]; · iexact Hs
    iexact Hw
  isplitl [HO]
  · iexists W'; isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iapply (owns_of_held (F := F) c (win0_15.stage (cfg0.slots t 15))); iexact W15
  isplitl [W16]; · iapply (owns_of_held (F := F) c (win0_16.stage (cfg0.slots t 16))); iexact W16
  isplitl [W17]; · iapply (owns_of_held (F := F) c (win0_17.stage (cfg0.slots t 17))); iexact W17
  isplitl [W18]; · iapply (owns_of_held (F := F) c (win0_18.stage (cfg0.slots t 18))); iexact W18
  iapply (owns_of_pieces (F := F) c (win0_19.stage (cfg0.slots t 19)) _ (later_cover m c t h)); iexact W19

theorem sound_body (c : Dev nD) (t : Fin cfg0.N) :
    given m c t ⊢ wp frame (wpE (defs₀ (F := F)) Variants.none c none) Set.univ (bodyAt0 t) (fun _ => returned m c t) := by
  by_cases h : Scalar.cmpi .ne (Scalar.extui (Scalar.cmpi .eq (BitVec.ofNat 32 (grid0.coords t 0).val) 0#32) : BitVec 32) 0#32 = 1#1
  · exact sound_first m c t h
  · exact sound_later m c t h

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

set_option backward.isDefEq.respectTransparency.types false in
/-- The whole grid: it ends, the final retention states at what the points left, every semaphore at zero. -/
theorem run_grid :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget_shared (Q' := _) cfgs (dats m) (0 : Fin 1) launch₀0 osem0 defs₀ Variants.none forgets0 ownSemFacts0 H0 H0_sub m ρ main
    (hbody := fun c => (body_obligation m c).loose) (hq := fun c w _ => rfl)
    (howed := fun _ _ => rfl) (V := V m) (hmain := hmainD m Variants.none) (hA := A_eq m)
    (hin := fun _ => .rfl) (hout := fun _ => .rfl)

/-- An array the run keeps whole account of, at the end. -/
theorem ends {r : PUnit × MemSt nD τ sig (Elt F)}
    (h : Pipeline.RDat.FramePost (cfgs 0) (fun c => (dats (F := F) m 0 c).toRForget forgets0) (V m) r) (c : Dev nD) (w : Fin cfg0.W)
    (hw : forgets0 w = false) :
    r.2.mem ((cfg0.win w).arr.view.loc (c : Thread nD τ)) = (dats m 0 c).arrAt w cfg0.N :=
  (Pipeline.Dat.toRForget_arrAt_iff (dat := dats m 0 c) hw cfg0.N _).mp ((h c).1 w)

theorem in_kept {r : PUnit × MemSt nD τ sig (Elt F)}
    (h : Pipeline.RDat.FramePost (cfgs 0) (fun c => (dats (F := F) m 0 c).toRForget forgets0) (V m) r) (c : Dev nD) (w : Fin cfg0.W)
    (hw : forgets0 w = false) (hi : (cfg0.win w).isOut = false) :
    r.2.mem ((cfg0.win w).arr.view.loc (c : Thread nD τ)) = V m c (Pipeline.arrRef spec0 w) :=
  (ends m h c w hw).trans (((dats m 0 c).arrAt_in w hi _).trans (A_eq m c w))

/-- The arguments end as they were, the semaphores at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨(in_kept m h.1 c 0 rfl rfl).trans (V_main_arg0 m c),
    (in_kept m h.1 c 1 rfl rfl).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    (in_kept m h.1 c 7 rfl rfl).trans (V_main_arg5 m c),
    (in_kept m h.1 c 8 rfl rfl).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    (in_kept m h.1 c 10 rfl rfl).trans (V_main_arg9 m c),
    ((h.1 c).2 main_arg10 (Pipeline.mem_restRefs_of main_arg10 (by decide) (by decide))).trans (V_main_arg10 m c),
    (in_kept m h.1 c 11 rfl rfl).trans (V_main_arg11 m c),
    (in_kept m h.1 c 12 rfl rfl).trans (V_main_arg12 m c),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c)⟩, h.2⟩) (run_grid m ρ)

end Cert.MixerIdeal.Hand

end
-- ==== Proof.Mixer.Pieces.lean ====
/- Blocks stored into and loaded from a buffer through views that have dropped their unit axes, against one function of the buffer's own coordinates. -/
module

public import proofs.«01_k».proof.Proof.Gen.MixerIdeal.Frame
public import Idealize.ShloMosaic.Lib.Exec
public import Idealize.ShloMosaic.Lib.Pipeline.ReadBack
public import Idealize.ShloMosaic.Lib.Pipeline.ValueKit
public import Idealize.ShloMosaic.Lib.Pointwise

@[expose] public section

noncomputable section

namespace Cert.MixerIdeal.Hand

open Cert.MixerIdeal Cert.MixerIdeal.Gen
open Idealize.ShloMosaic Idealize.ShloMosaic.TcCoe

variable {V : Type}

/-- A head's block of 256 rows, stored at batch `b`, head `h`. -/
theorem head_piece (G : S2x4x256x128.Idx → V) (b h : ℕ) (hb : b < 2) (hh : h < 4) (p1 p2 p3 p4 p5 hR)
    (w : (Rect.unit (s := S4x256x128) ![h, 0, 0] S1x256x128.size p2).shape.Idx → V)
    (hw : ∀ (t : Fin 256) (d : Fin 128), w (ix3 0 t d : S1x256x128.Idx) = G (ix4 ⟨b, hb⟩ ⟨h, hh⟩ t d))
    (x : ((Rect.unit (s := S2x4x256x128) ![b, 0, 0, 0] S1x4x256x128.size p1).within ((Rect.unit (s := S4x256x128) ![h, 0, 0] S1x256x128.size p2).consLift ![1, 4, 256, 128] p3 p4) p5).shape.Idx) :
    Rect.payAlong hR w x
      = G (((Rect.unit (s := S2x4x256x128) ![b, 0, 0, 0] S1x4x256x128.size p1).within ((Rect.unit (s := S4x256x128) ![h, 0, 0] S1x256x128.size p2).consLift ![1, 4, 256, 128] p3 p4) p5).emb x) := by
  have h0 : (x 0).val < 1 := (x 0).isLt
  have h1 : (x 1).val < 1 := (x 1).isLt
  have e := Rect.payAlong_consLift (Rect.unit (s := S4x256x128) ![h, 0, 0] S1x256x128.size p2) ![1, 4, 256, 128] p3 p4 w hR x
    (ix3 0 (x 2) (x 3) : S1x256x128.Idx) (fun i => by
      match i with
      | ⟨0, _⟩ => show 0 = (x 1).val; omega
      | ⟨1, _⟩ => rfl
      | ⟨2, _⟩ => rfl)
  refine e.trans ((hw (x 2) (x 3)).trans (congrArg G (funext fun a => Fin.ext ?_)))
  match a with
  | ⟨0, _⟩ => show b = b + 0 + 1 * (x 0).val; omega
  | ⟨1, _⟩ => show h = 0 + h + 1 * (x 1).val; omega
  | ⟨2, _⟩ => show (x 2).val = 0 + 0 + 1 * (x 2).val; omega
  | ⟨3, _⟩ => show (x 3).val = 0 + 0 + 1 * (x 3).val; omega

/-- All heads' values of a batch, stored at batch `b`. -/
theorem values_piece (G : S2x256x512.Idx → V) (b : ℕ) (hb : b < 2) (p1 p2 p3 p4 p5 hR)
    (w : (Rect.unit (s := S256x512) ![0, 0] S256x512.size p2).shape.Idx → V)
    (hw : ∀ (t : Fin 256) (d : Fin 512), w (ix2 t d : S256x512.Idx) = G (ix3 ⟨b, hb⟩ t d))
    (x : ((Rect.unit (s := S2x256x512) ![b, 0, 0] S1x256x512.size p1).within ((Rect.unit (s := S256x512) ![0, 0] S256x512.size p2).consLift ![1, 256, 512] p3 p4) p5).shape.Idx) :
    Rect.payAlong hR w x
      = G (((Rect.unit (s := S2x256x512) ![b, 0, 0] S1x256x512.size p1).within ((Rect.unit (s := S256x512) ![0, 0] S256x512.size p2).consLift ![1, 256, 512] p3 p4) p5).emb x) := by
  have h0 : (x 0).val < 1 := (x 0).isLt
  have e := Rect.payAlong_consLift (Rect.unit (s := S256x512) ![0, 0] S256x512.size p2) ![1, 256, 512] p3 p4 w hR x
    (ix2 (x 1) (x 2) : S256x512.Idx) (fun i => by
      match i with
      | ⟨0, _⟩ => rfl
      | ⟨1, _⟩ => rfl)
  refine e.trans ((hw (x 1) (x 2)).trans (congrArg G (funext fun a => Fin.ext ?_)))
  match a with
  | ⟨0, _⟩ => show b = b + 0 + 1 * (x 0).val; omega
  | ⟨1, _⟩ => show (x 1).val = 0 + 0 + 1 * (x 1).val; omega
  | ⟨2, _⟩ => show (x 2).val = 0 + 0 + 1 * (x 2).val; omega

/-- A head's state in one direction, stored at batch `b`, direction `dir`, head `h`. -/
theorem state_piece (G : S2x1x2x4x128x128.Idx → V) (b dir h : ℕ) (hb : b < 2) (hd : dir < 2) (hh : h < 4) (p1 p2 p3 p4 p5 p6 p7 hR)
    (w : (Rect.unit (s := S2x4x128x128) ![dir, h, 0, 0] S1x1x128x128.size p2).shape.Idx → V)
    (hw : ∀ d e : Fin 128, w (ix4 0 0 d e : S1x1x128x128.Idx) = G (ix6 ⟨b, hb⟩ 0 ⟨dir, hd⟩ ⟨h, hh⟩ d e))
    (x : ((Rect.unit (s := S2x1x2x4x128x128) ![b, 0, 0, 0, 0, 0] S1x1x2x4x128x128.size p1).within (((Rect.unit (s := S2x4x128x128) ![dir, h, 0, 0] S1x1x128x128.size p2).consLift ![1, 2, 4, 128, 128] p3 p4).consLift ![1, 1, 2, 4, 128, 128] p5 p6) p7).shape.Idx) :
    Rect.payAlong hR w x
      = G (((Rect.unit (s := S2x1x2x4x128x128) ![b, 0, 0, 0, 0, 0] S1x1x2x4x128x128.size p1).within (((Rect.unit (s := S2x4x128x128) ![dir, h, 0, 0] S1x1x128x128.size p2).consLift ![1, 2, 4, 128, 128] p3 p4).consLift ![1, 1, 2, 4, 128, 128] p5 p6) p7).emb x) := by
  have h0 : (x 0).val < 1 := (x 0).isLt
  have h1 : (x 1).val < 1 := (x 1).isLt
  have h2 : (x 2).val < 1 := (x 2).isLt
  have h3 : (x 3).val < 1 := (x 3).isLt
  have e : Rect.payAlong hR w x = w (ix4 0 0 (x 4) (x 5) : S1x1x128x128.Idx) := by
    have e1 := Rect.payAlong_consLift ((Rect.unit (s := S2x4x128x128) ![dir, h, 0, 0] S1x1x128x128.size p2).consLift ![1, 2, 4, 128, 128] p3 p4) ![1, 1, 2, 4, 128, 128] p5 p6
      (Rect.payAlong (Rect.numel_consLift (Rect.unit (s := S2x4x128x128) ![dir, h, 0, 0] S1x1x128x128.size p2) ![1, 2, 4, 128, 128] p3 p4) w)
      (Rect.numel_consLift _ _ p5 p6) x (fun i => x i.succ) (fun i => rfl)
    have e2 := Rect.payAlong_consLift (Rect.unit (s := S2x4x128x128) ![dir, h, 0, 0] S1x1x128x128.size p2) ![1, 2, 4, 128, 128] p3 p4 w
      (Rect.numel_consLift _ _ p3 p4) (fun i => x i.succ) (ix4 0 0 (x 4) (x 5) : S1x1x128x128.Idx) (fun i => by
        match i with
        | ⟨0, _⟩ => show 0 = (x 2).val; omega
        | ⟨1, _⟩ => show 0 = (x 3).val; omega
        | ⟨2, _⟩ => rfl
        | ⟨3, _⟩ => rfl)
    refine Eq.trans ?_ (e1.trans e2)
    exact congrArg w (Shape.reshapeEquiv_reshapeEquiv _ _ _).symm
  refine e.trans ((hw (x 4) (x 5)).trans (congrArg G (funext fun a => Fin.ext ?_)))
  match a with
  | ⟨0, _⟩ => show b = b + 0 + 1 * (x 0).val; omega
  | ⟨1, _⟩ => show 0 = 0 + 0 + 1 * (x 1).val; omega
  | ⟨2, _⟩ => show dir = 0 + dir + 1 * (x 2).val; omega
  | ⟨3, _⟩ => show h = 0 + h + 1 * (x 3).val; omega
  | ⟨4, _⟩ => show (x 4).val = 0 + 0 + 1 * (x 4).val; omega
  | ⟨5, _⟩ => show (x 5).val = 0 + 0 + 1 * (x 5).val; omega

/-- A head's block loaded back. -/
theorem head_load (G : S2x4x256x128.Idx → V) (b h : ℕ) (hb : b < 2) (hh : h < 4) (p1 p2 p3 p4 p5 hR) (t : Fin 256) (d : Fin 128) :
    LoadRect.valAlong (lr := (Rect.unit (s := S4x256x128) ![h, 0, 0] S1x256x128.size p2).toLoadRect) hR
        (fun j => G (((Rect.unit (s := S2x4x256x128) ![b, 0, 0, 0] S1x4x256x128.size p1).withinL ((Rect.unit (s := S4x256x128) ![h, 0, 0] S1x256x128.size p2).toLoadRect.consLift ![1, 4, 256, 128] p3 p4) p5).idx j))
        (ix3 0 t d : S1x256x128.Idx)
      = G (ix4 ⟨b, hb⟩ ⟨h, hh⟩ t d) := by
  have hx := Shape.reshapeEquiv_cons_one (d := (Rect.unit (s := S4x256x128) ![h, 0, 0] S1x256x128.size p2).toLoadRect.size) hR (ix3 0 t d : S1x256x128.Idx)
  refine (congrArg (fun j => G (((Rect.unit (s := S2x4x256x128) ![b, 0, 0, 0] S1x4x256x128.size p1).withinL ((Rect.unit (s := S4x256x128) ![h, 0, 0] S1x256x128.size p2).toLoadRect.consLift ![1, 4, 256, 128] p3 p4) p5).idx j)) hx).trans ?_
  refine congrArg G (funext fun a => Fin.ext ?_)
  match a with
  | ⟨0, _⟩ => show b + 0 + 1 * 0 = b; omega
  | ⟨1, _⟩ => show 0 + h + 1 * 0 = h; omega
  | ⟨2, _⟩ => show 0 + 0 + 1 * t.val = t.val; omega
  | ⟨3, _⟩ => show 0 + 0 + 1 * d.val = d.val; omega

/-- A head's values loaded back: the columns from `o` on. -/
theorem values_load (G : S2x256x512.Idx → V) (b o : ℕ) (hb : b < 2) (ho : o + 128 ≤ 512) (p1 p2 p3 p4 p5 hR) (t : Fin 256) (d : Fin 128) :
    LoadRect.valAlong (lr := (Rect.unit (s := S256x512) ![0, o] S256x128.size p2).toLoadRect) hR
        (fun j => G (((Rect.unit (s := S2x256x512) ![b, 0, 0] S1x256x512.size p1).withinL ((Rect.unit (s := S256x512) ![0, o] S256x128.size p2).toLoadRect.consLift ![1, 256, 512] p3 p4) p5).idx j))
        (ix2 t d : S256x128.Idx)
      = G (ix3 ⟨b, hb⟩ t ⟨o + d.val, by omega⟩) := by
  have hx := Shape.reshapeEquiv_cons_one (d := (Rect.unit (s := S256x512) ![0, o] S256x128.size p2).toLoadRect.size) hR (ix2 t d : S256x128.Idx)
  refine (congrArg (fun j => G (((Rect.unit (s := S2x256x512) ![b, 0, 0] S1x256x512.size p1).withinL ((Rect.unit (s := S256x512) ![0, o] S256x128.size p2).toLoadRect.consLift ![1, 256, 512] p3 p4) p5).idx j)) hx).trans ?_
  refine congrArg G (funext fun a => Fin.ext ?_)
  match a with
  | ⟨0, _⟩ => show b + 0 + 1 * 0 = b; omega
  | ⟨1, _⟩ => show 0 + 0 + 1 * t.val = t.val; omega
  | ⟨2, _⟩ => show 0 + o + 1 * d.val = o + d.val; omega

/-- A batch's tokens, loaded from the block of both. -/
theorem tokens_load (G : S2x256x1024.Idx → V) (b : ℕ) (hb : b < 2) (p1 p2 p3 p4 p5 hR) (t : Fin 256) (j : Fin 1024) :
    LoadRect.valAlong (lr := (Rect.unit (s := S256x1024) ![0, 0] S256x1024.size p2).toLoadRect) hR
        (fun j => G (((Rect.unit (s := S2x256x1024) ![b, 0, 0] S1x256x1024.size p1).withinL ((Rect.unit (s := S256x1024) ![0, 0] S256x1024.size p2).toLoadRect.consLift ![1, 256, 1024] p3 p4) p5).idx j))
        (ix2 t j : S256x1024.Idx)
      = G (ix3 ⟨b, hb⟩ t j) := by
  have hx := Shape.reshapeEquiv_cons_one (d := (Rect.unit (s := S256x1024) ![0, 0] S256x1024.size p2).toLoadRect.size) hR (ix2 t j : S256x1024.Idx)
  refine (congrArg (fun j => G (((Rect.unit (s := S2x256x1024) ![b, 0, 0] S1x256x1024.size p1).withinL ((Rect.unit (s := S256x1024) ![0, 0] S256x1024.size p2).toLoadRect.consLift ![1, 256, 1024] p3 p4) p5).idx j)) hx).trans ?_
  refine congrArg G (funext fun a => Fin.ext ?_)
  match a with
  | ⟨0, _⟩ => show b + 0 + 1 * 0 = b; omega
  | ⟨1, _⟩ => show 0 + 0 + 1 * t.val = t.val; omega
  | ⟨2, _⟩ => show 0 + 0 + 1 * j.val = j.val; omega

end Cert.MixerIdeal.Hand

end
-- ==== Proof.Mixer.Sums.lean ====
/- The final retention state as one weighted sum over the tokens, over the extended reals. -/
module

public import Idealize.ShloMosaic.Lib.Pointwise

@[expose] public section

noncomputable section

namespace Cert.Retention

open Idealize.ShloMosaic

/-- A sum times a nonnegative real is the sum of the products, at every extended real. -/
theorem scaled_sum {ι : Type} [Fintype ι] (f : ι → EReal) (r : ℝ) (hr : 0 ≤ r) :
    (∑ i, f i) * (r : EReal) = ∑ i, f i * (r : EReal) := by
  classical
  refine Finset.induction_on (Finset.univ : Finset ι) (by simp) fun a s ha ih => ?_
  rw [Finset.sum_insert ha, Finset.sum_insert ha, EReal.right_distrib_of_nonneg_of_ne_top (EReal.coe_nonneg.mpr hr) (EReal.coe_ne_top r), ih]

/-- The sum over the 256 tokens, chunk by chunk. -/
theorem by_chunks (F : Fin 256 → EReal) :
    ∑ s, F s = ∑ j : Fin 64, F ⟨j.val, by omega⟩ + ∑ j : Fin 64, F ⟨64 + j.val, by omega⟩
      + ∑ j : Fin 64, F ⟨128 + j.val, by omega⟩ + ∑ j : Fin 64, F ⟨192 + j.val, by omega⟩ := by
  rw [← (finProdFinEquiv (m := 4) (n := 64)).sum_comp, Fintype.sum_prod_type, Fin.sum_univ_four]
  refine congrArg₂ (· + ·) (congrArg₂ (· + ·) (congrArg₂ (· + ·) ?_ ?_) ?_) ?_ <;>
    refine Finset.sum_congr rfl fun j _ => congrArg F (Fin.ext ?_) <;> simp [finProdFinEquiv] <;> omega

/-- The four chunks' recurrence: each state decays over a chunk before the next chunk's products enter. -/
theorem recurrence (k v : Fin 256 → EReal) (L : ℝ) :
    (((0 * ((Real.exp (64 * L) : ℝ) : EReal) + ∑ j : Fin 64, k ⟨j.val, by omega⟩ * ((Real.exp ((63 - (j.val : ℝ)) * L) : ℝ) : EReal) * v ⟨j.val, by omega⟩) * ((Real.exp (64 * L) : ℝ) : EReal)
      + ∑ j : Fin 64, k ⟨64 + j.val, by omega⟩ * ((Real.exp ((63 - (j.val : ℝ)) * L) : ℝ) : EReal) * v ⟨64 + j.val, by omega⟩) * ((Real.exp (64 * L) : ℝ) : EReal)
      + ∑ j : Fin 64, k ⟨128 + j.val, by omega⟩ * ((Real.exp ((63 - (j.val : ℝ)) * L) : ℝ) : EReal) * v ⟨128 + j.val, by omega⟩) * ((Real.exp (64 * L) : ℝ) : EReal)
      + ∑ j : Fin 64, k ⟨192 + j.val, by omega⟩ * ((Real.exp ((63 - (j.val : ℝ)) * L) : ℝ) : EReal) * v ⟨192 + j.val, by omega⟩
    = ∑ s : Fin 256, k s * v s * ((Real.exp ((255 - (s.val : ℝ)) * L) : ℝ) : EReal) := by
  have e : ∀ x : EReal, ∀ a b : ℝ, x * ((Real.exp a : ℝ) : EReal) * ((Real.exp b : ℝ) : EReal) = x * ((Real.exp (a + b) : ℝ) : EReal) := fun x a b => by
    rw [Real.exp_add, EReal.coe_mul, mul_assoc]
  have s : ∀ (x y : EReal) (a : ℝ), x * ((Real.exp a : ℝ) : EReal) * y = x * y * ((Real.exp a : ℝ) : EReal) := fun x y a => mul_right_comm _ _ _
  have d : ∀ x y : EReal, (x + y) * ((Real.exp (64 * L) : ℝ) : EReal) = x * ((Real.exp (64 * L) : ℝ) : EReal) + y * ((Real.exp (64 * L) : ℝ) : EReal) := fun x y =>
    EReal.right_distrib_of_nonneg_of_ne_top (EReal.coe_nonneg.mpr (Real.exp_pos _).le) (EReal.coe_ne_top _) x y
  rw [by_chunks, zero_mul, zero_add]
  simp only [s]
  simp only [d, scaled_sum _ _ (Real.exp_pos (64 * L)).le, ← mul_assoc, e]
  refine congrArg₂ (· + ·) (congrArg₂ (· + ·) (congrArg₂ (· + ·) ?_ ?_) ?_) ?_ <;>
    refine Finset.sum_congr rfl fun j _ => congrArg (fun x : ℝ => _ * ((Real.exp x : ℝ) : EReal)) ?_ <;> push_cast <;> ring

/-- The same sum with the tokens taken from the last. -/
theorem from_last (k v : Fin 256 → EReal) (L : ℝ) :
    ∑ s : Fin 256, k (Fin.rev s) * v (Fin.rev s) * ((Real.exp ((255 - (s.val : ℝ)) * L) : ℝ) : EReal)
      = ∑ t : Fin 256, k t * v t * ((Real.exp ((t.val : ℝ) * L) : ℝ) : EReal) := by
  rw [← Equiv.sum_comp Fin.revPerm]
  refine Finset.sum_congr rfl fun t _ => ?_
  simp only [Fin.revPerm_apply, Fin.rev_rev]
  refine congrArg (fun x : ℝ => _ * ((Real.exp x : ℝ) : EReal)) ?_
  rw [Fin.val_rev, Nat.cast_sub (by omega)]; push_cast; ring

/-! ## The constants -/

/-- The forward decays. -/
def base : Fin 4 → ℝ := ![66571993181 / 68719476736, 63 / 64, 127 / 128, 255 / 256]

/-- Their logarithms. -/
def logF (h : Fin 4) : ℝ := Real.log (base h)

/-- The logarithms of the backward decays, the ones the program holds. -/
def logB : Fin 4 → ℝ := ![-5998159 / 268435456, -5964653 / 536870912, -2974043 / 536870912, -11879697 / 4294967296]

theorem base_pos (h : Fin 4) : 0 < base h := by fin_cases h <;> norm_num [base]

theorem log_base (h : Fin 4) : Ideal.log ((base h : ℝ) : EReal) = ((logF h : ℝ) : EReal) := by
  rw [Ideal.log_coe, if_neg (not_le.mpr (base_pos h))]; rfl

theorem pos_coe (n : ℕ) (hn : n < 2 ^ 31) : (FloatOps.sitofp (F := Ideal) .f32 (BitVec.ofNat 32 n) : EReal) = ((n : ℝ) : EReal) := by
  show (((BitVec.ofNat 32 n).toInt : ℝ) : EReal) = _
  have e : (BitVec.ofNat 32 n).toInt = (n : ℤ) := by
    simp only [BitVec.toInt, BitVec.toNat_ofNat]; omega
  rw [e]; push_cast; rfl

theorem b64 : Ideal.ofBits .f32 0x42800000#32 = ((64 : ℝ) : EReal) := by
  simp [Ideal.ofBits, Ideal.ieee, -EReal.coe_mul]; norm_num
theorem b63 : Ideal.ofBits .f32 0x427C0000#32 = ((63 : ℝ) : EReal) := by
  simp [Ideal.ofBits, Ideal.ieee, -EReal.coe_mul]; norm_num
theorem f0 : Ideal.ofBits .f32 0x3F780000#32 + Ideal.ofBits .f32 0x30BA0000#32 = ((base 0 : ℝ) : EReal) := by
  have a : Ideal.ofBits .f32 0x3F780000#32 = ((31 / 32 : ℝ) : EReal) := by
    simp [Ideal.ofBits, Ideal.ieee, -EReal.coe_mul]; norm_num
  have b : Ideal.ofBits .f32 0x30BA0000#32 = ((93 / 68719476736 : ℝ) : EReal) := by
    simp [Ideal.ofBits, Ideal.ieee, -EReal.coe_mul]; norm_num
  rw [a, b, ← EReal.coe_add]; norm_num [base]
theorem f1 : Ideal.ofBits .f32 0x3F7C0000#32 = ((base 1 : ℝ) : EReal) := by
  simp [Ideal.ofBits, Ideal.ieee, -EReal.coe_mul, base]; norm_num
theorem f2 : Ideal.ofBits .f32 0x3F7E0000#32 = ((base 2 : ℝ) : EReal) := by
  simp [Ideal.ofBits, Ideal.ieee, -EReal.coe_mul, base]; norm_num
theorem f3 : Ideal.ofBits .f32 0x3F7F0000#32 = ((base 3 : ℝ) : EReal) := by
  simp [Ideal.ofBits, Ideal.ieee, -EReal.coe_mul, base]; norm_num
theorem g0 : Ideal.ofBits .f32 0xBCB70C9E#32 = ((logB 0 : ℝ) : EReal) := by
  simp [Ideal.ofBits, Ideal.ieee, -EReal.coe_mul, logB]; norm_num
theorem g1 : Ideal.ofBits .f32 0xBC3606DA#32 = ((logB 1 : ℝ) : EReal) := by
  simp [Ideal.ofBits, Ideal.ieee, -EReal.coe_mul, logB]; norm_num
theorem g2 : Ideal.ofBits .f32 0xBBB5856C#32 = ((logB 2 : ℝ) : EReal) := by
  simp [Ideal.ofBits, Ideal.ieee, -EReal.coe_mul, logB]; norm_num
theorem g3 : Ideal.ofBits .f32 0xBB354511#32 = ((logB 3 : ℝ) : EReal) := by
  simp [Ideal.ofBits, Ideal.ieee, -EReal.coe_mul, logB]; norm_num

theorem exp_chunk (L : ℝ) : Ideal.exp (Ideal.ofBits .f32 0x42800000#32 * (L : EReal)) = ((Real.exp (64 * L) : ℝ) : EReal) := by
  rw [b64, ← EReal.coe_mul, Ideal.exp_coe]

theorem exp_place (L : ℝ) (j : Fin 64) :
    Ideal.exp ((Ideal.ofBits .f32 0x427C0000#32 - FloatOps.sitofp (F := Ideal) .f32 (BitVec.ofNat 32 j.val)) * (L : EReal))
      = ((Real.exp ((63 - (j.val : ℝ)) * L) : ℝ) : EReal) := by
  rw [b63, pos_coe _ (by omega), ← EReal.coe_sub, ← EReal.coe_mul, Ideal.exp_coe]

theorem exp_from_start (L : ℝ) (t : Fin 256) :
    Ideal.exp (FloatOps.sitofp (F := Ideal) .f32 (BitVec.ofNat 32 t.val) * (L : EReal)) = ((Real.exp ((t.val : ℝ) * L) : ℝ) : EReal) := by
  rw [pos_coe _ (by omega), ← EReal.coe_mul, Ideal.exp_coe]

/-- The 255th power, as the exponential of the logarithm. -/
theorem power (h : Fin 4) (t : ℝ) (x : EReal) (y : EReal) :
    (x * ((Real.exp (t * -logF h) : ℝ) : EReal) * y) * ((base h ^ 255 : ℝ) : EReal) = x * y * ((Real.exp ((255 - t) * logF h) : ℝ) : EReal) := by
  have hp : base h ^ 255 = Real.exp (255 * logF h) := by
    rw [mul_comm, Real.exp_mul, logF, Real.exp_log (base_pos h)]; norm_cast
  rw [hp, mul_right_comm x, mul_assoc (x * y), ← EReal.coe_mul, ← Real.exp_add]
  ring_nf

/-! ## The layer's mathematics -/

/-- One token's normalised and modulated row. -/
def token (x n1 sc sh : Fin 1024 → EReal) (j : Fin 1024) : EReal :=
  x j * Ideal.rsqrt (Ideal.div (∑ i, x i * x i) (Ideal.ofBits .f32 0x44800000#32) + Ideal.ofBits .f32 0x358637BD#32) * n1 j * (1 + sc j) + sh j

/-- Its product with one column of the weights. -/
def proj (x n1 sc sh w : Fin 1024 → EReal) : EReal := ∑ j, token x n1 sc sh j * w j

/-- A token's weight in the final state. -/
def weight (dir : Fin 2) (h : Fin 4) (t : Fin 256) : ℝ :=
  if dir = 0 then Real.exp ((255 - (t.val : ℝ)) * logF h) else Real.exp ((t.val : ℝ) * logB h)

/-- One entry of the final retention state. -/
def state (x : Fin 256 → Fin 1024 → EReal) (n1 sc sh wk wv : Fin 1024 → EReal) (dir : Fin 2) (h : Fin 4) : EReal :=
  ∑ t : Fin 256, proj (x t) n1 sc sh wk * proj (x t) n1 sc sh wv * ((weight dir h t : ℝ) : EReal)

end Cert.Retention

end
-- ==== Proof.Mixer.Math.lean ====
/- The mixer call's retention payloads over the extended reals. -/
module

public import proofs.«01_k».proof.Proof.Gen.MixerIdeal.Skeleton
public import proofs.«01_k».proof.Proof.Mixer.Sums
public import Idealize.ShloMosaic.Lib.Pointwise
public import Idealize.ShloMosaic.PureOps.IdealRules

@[expose] public section

set_option maxRecDepth 16384

noncomputable section

namespace Cert.MixerIdeal.Hand

open Cert.MixerIdeal Cert.MixerIdeal.Gen
open Idealize.ShloMosaic Idealize.ShloMosaic.TcCoe Cert.Retention

theorem rate0 : Named.named (F := Ideal) (φ := .f32) κ "nlg0" 0x3D020AEC#32 = ((-logF 0 : ℝ) : EReal) :=
  IdealRules.named_const.ideal_named_scalar _ _ _ _ rfl

theorem final0 : Named.named (F := Ideal) (φ := .f32) κ "gn0" 0x399FCAFD#32 = ((base 0 ^ 255 : ℝ) : EReal) := by
  refine (IdealRules.named_const.ideal_named_scalar _ _ _ _ rfl).trans (congrArg _ ?_)
  rw [show base 0 = 66571993181 / 68719476736 from rfl]; norm_num

theorem rate1 : Named.named (F := Ideal) (φ := .f32) κ "nlg1" 0x3C8102B3#32 = ((-logF 1 : ℝ) : EReal) :=
  IdealRules.named_const.ideal_named_scalar _ _ _ _ rfl

theorem final1 : Named.named (F := Ideal) (φ := .f32) κ "gn1" 0x3C93AF63#32 = ((base 1 ^ 255 : ℝ) : EReal) := by
  refine (IdealRules.named_const.ideal_named_scalar _ _ _ _ rfl).trans (congrArg _ ?_)
  rw [show base 1 = 63 / 64 from rfl]; norm_num

theorem rate2 : Named.named (F := Ideal) (φ := .f32) κ "nlg2" 0x3C0080AC#32 = ((-logF 2 : ℝ) : EReal) :=
  IdealRules.named_const.ideal_named_scalar _ _ _ _ rfl

theorem final2 : Named.named (F := Ideal) (φ := .f32) κ "gn2" 0x3E0A94F8#32 = ((base 2 ^ 255 : ℝ) : EReal) := by
  refine (IdealRules.named_const.ideal_named_scalar _ _ _ _ rfl).trans (congrArg _ ?_)
  rw [show base 2 = 127 / 128 from rfl]; norm_num

theorem rate3 : Named.named (F := Ideal) (φ := .f32) κ "nlg3" 0x3B80402B#32 = ((-logF 3 : ℝ) : EReal) :=
  IdealRules.named_const.ideal_named_scalar _ _ _ _ rfl

theorem final3 : Named.named (F := Ideal) (φ := .f32) κ "gn3" 0x3EBCB916#32 = ((base 3 ^ 255 : ℝ) : EReal) := by
  refine (IdealRules.named_const.ideal_named_scalar _ _ _ _ rfl).trans (congrArg _ ?_)
  rw [show base 3 = 255 / 256 from rfl]; norm_num

theorem scalar_add_zero (t : ℕ) : IntOp.addi (0#32) (BitVec.ofNat 32 t) = BitVec.ofNat 32 t := BitVec.zero_add _

/-- One row of the product of the normalised tokens with the weights' columns. -/
def row (sh g x : Fin 1024 → EReal) (w : Fin 1024 → EReal) : EReal :=
  ∑ j, (x j * Ideal.rsqrt (Ideal.div (∑ i, x i * x i) (Ideal.ofBits .f32 0x44800000#32) + Ideal.ofBits .f32 0x358637BD#32) * g j + sh j) * w j

theorem row_eq (x n1 sc sh w : Fin 1024 → EReal) (g : Fin 1024 → EReal) (hg : ∀ j, g j = n1 j * (1 + sc j)) : row sh g x w = proj x n1 sc sh w := by
  unfold row proj token
  refine Finset.sum_congr rfl fun j _ => ?_
  rw [hg, ← mul_assoc]

theorem product577_0 (v4 v11 : FVec Ideal S1x1024 .f32) (x0 x1 : Vec Ideal S256x1024 .f32) (w : Vec Ideal S1024x1024 .f32) (t : Fin 256) (col : Fin 1024) :
    k0_pay577 v4 v11 x0 x1 w (ix2 ⟨t.val, by omega⟩ col) = row (fun j => v4 (ix2 0 j)) (fun j => v11 (ix2 0 j)) (fun j => x0 (ix2 t j)) (fun j => w (ix2 j col)) := by
  unfold row
  pointwise [k0_pay577, k0_pay575]
  try rfl

theorem product577_1 (v4 v11 : FVec Ideal S1x1024 .f32) (x0 x1 : Vec Ideal S256x1024 .f32) (w : Vec Ideal S1024x1024 .f32) (t : Fin 256) (col : Fin 1024) :
    k0_pay577 v4 v11 x0 x1 w (ix2 ⟨256 + t.val, by omega⟩ col) = row (fun j => v4 (ix2 0 j)) (fun j => v11 (ix2 0 j)) (fun j => x1 (ix2 t j)) (fun j => w (ix2 j col)) := by
  unfold row
  pointwise [k0_pay577, k0_pay575]
  try rfl

theorem product578_0 (v4 v11 : FVec Ideal S1x1024 .f32) (x0 x1 : Vec Ideal S256x1024 .f32) (w : Vec Ideal S1024x1024 .f32) (t : Fin 256) (col : Fin 1024) :
    k0_pay578 v4 v11 x0 x1 w (ix2 ⟨t.val, by omega⟩ col) = row (fun j => v4 (ix2 0 j)) (fun j => v11 (ix2 0 j)) (fun j => x0 (ix2 t j)) (fun j => w (ix2 j col)) := by
  unfold row
  pointwise [k0_pay578, k0_pay575]
  try rfl

theorem product578_1 (v4 v11 : FVec Ideal S1x1024 .f32) (x0 x1 : Vec Ideal S256x1024 .f32) (w : Vec Ideal S1024x1024 .f32) (t : Fin 256) (col : Fin 1024) :
    k0_pay578 v4 v11 x0 x1 w (ix2 ⟨256 + t.val, by omega⟩ col) = row (fun j => v4 (ix2 0 j)) (fun j => v11 (ix2 0 j)) (fun j => x1 (ix2 t j)) (fun j => w (ix2 j col)) := by
  unfold row
  pointwise [k0_pay578, k0_pay575]
  try rfl

theorem key_f00 (q : FVec Ideal S512x1024 .f32) (t : Fin 256) (d : Fin 128) :
    k0_pay590 (0#32) (k0_pay582 q) (ix3 0 t d) = q (ix2 ⟨t.val, by omega⟩ ⟨512 + d.val, by omega⟩) * ((Real.exp ((t.val : ℝ) * (-logF 0)) : ℝ) : EReal) := by
  rw [← exp_from_start]
  pointwise [k0_pay582, k0_pay586, k0_pay588, k0_pay590, k0_pay595, k0_pay609, k0_pay621, k0_pay634, k0_pay641, scalar_add_zero, rate0]
  try rfl

theorem key_f01 (q : FVec Ideal S512x1024 .f32) (t : Fin 256) (d : Fin 128) :
    k0_pay598 (k0_pay597 (k0_pay582 q) (k0_pay586 0#32)) (ix3 0 t d) = q (ix2 ⟨t.val, by omega⟩ ⟨640 + d.val, by omega⟩) * ((Real.exp ((t.val : ℝ) * (-logF 1)) : ℝ) : EReal) := by
  rw [← exp_from_start]
  pointwise [k0_pay582, k0_pay586, k0_pay588, k0_pay595, k0_pay597, k0_pay598, k0_pay609, k0_pay621, k0_pay634, k0_pay641, scalar_add_zero, rate1]
  try rfl

theorem key_f02 (q : FVec Ideal S512x1024 .f32) (t : Fin 256) (d : Fin 128) :
    k0_pay605 (k0_pay586 0#32) (k0_pay602 (k0_pay582 q)) (ix3 0 t d) = q (ix2 ⟨t.val, by omega⟩ ⟨768 + d.val, by omega⟩) * ((Real.exp ((t.val : ℝ) * (-logF 2)) : ℝ) : EReal) := by
  rw [← exp_from_start]
  pointwise [k0_pay582, k0_pay586, k0_pay588, k0_pay595, k0_pay602, k0_pay605, k0_pay609, k0_pay621, k0_pay634, k0_pay641, scalar_add_zero, rate2]
  try rfl

theorem key_f03 (q : FVec Ideal S512x1024 .f32) (t : Fin 256) (d : Fin 128) :
    k0_pay611 (k0_pay582 q) (k0_pay586 0#32) (ix3 0 t d) = q (ix2 ⟨t.val, by omega⟩ ⟨896 + d.val, by omega⟩) * ((Real.exp ((t.val : ℝ) * (-logF 3)) : ℝ) : EReal) := by
  rw [← exp_from_start]
  pointwise [k0_pay582, k0_pay586, k0_pay588, k0_pay595, k0_pay609, k0_pay611, k0_pay621, k0_pay634, k0_pay641, scalar_add_zero, rate3]
  try rfl

theorem key_f10 (q : FVec Ideal S512x1024 .f32) (t : Fin 256) (d : Fin 128) :
    k0_pay629 (k0_pay624 0#32) (k0_pay626 q) (ix3 0 t d) = q (ix2 ⟨256 + t.val, by omega⟩ ⟨512 + d.val, by omega⟩) * ((Real.exp ((t.val : ℝ) * (-logF 0)) : ℝ) : EReal) := by
  rw [← exp_from_start]
  pointwise [k0_pay586, k0_pay588, k0_pay595, k0_pay609, k0_pay621, k0_pay624, k0_pay626, k0_pay629, k0_pay634, k0_pay641, scalar_add_zero, rate0]
  try rfl

theorem key_f11 (q : FVec Ideal S512x1024 .f32) (t : Fin 256) (d : Fin 128) :
    k0_pay636 (k0_pay621 q) (k0_pay624 0#32) (ix3 0 t d) = q (ix2 ⟨256 + t.val, by omega⟩ ⟨640 + d.val, by omega⟩) * ((Real.exp ((t.val : ℝ) * (-logF 1)) : ℝ) : EReal) := by
  rw [← exp_from_start]
  pointwise [k0_pay586, k0_pay588, k0_pay595, k0_pay609, k0_pay621, k0_pay624, k0_pay634, k0_pay636, k0_pay641, scalar_add_zero, rate1]
  try rfl

theorem key_f12 (q : FVec Ideal S512x1024 .f32) (t : Fin 256) (d : Fin 128) :
    k0_pay643 (k0_pay621 q) (k0_pay624 0#32) (ix3 0 t d) = q (ix2 ⟨256 + t.val, by omega⟩ ⟨768 + d.val, by omega⟩) * ((Real.exp ((t.val : ℝ) * (-logF 2)) : ℝ) : EReal) := by
  rw [← exp_from_start]
  pointwise [k0_pay586, k0_pay588, k0_pay595, k0_pay609, k0_pay621, k0_pay624, k0_pay634, k0_pay641, k0_pay643, scalar_add_zero, rate2]
  try rfl

theorem key_f13 (q : FVec Ideal S512x1024 .f32) (t : Fin 256) (d : Fin 128) :
    k0_pay651 (k0_pay648 (k0_pay621 q)) (k0_pay650 (k0_pay624 0#32)) (ix3 0 t d) = q (ix2 ⟨256 + t.val, by omega⟩ ⟨896 + d.val, by omega⟩) * ((Real.exp ((t.val : ℝ) * (-logF 3)) : ℝ) : EReal) := by
  rw [← exp_from_start]
  pointwise [k0_pay586, k0_pay588, k0_pay595, k0_pay609, k0_pay621, k0_pay624, k0_pay634, k0_pay641, k0_pay648, k0_pay650, k0_pay651, scalar_add_zero, rate3]
  try rfl

theorem key_b00 (q : FVec Ideal S512x1024 .f32) (t : Fin 256) (d : Fin 128) :
    k0_pay593 (k0_pay586 0#32) (k0_pay588 (k0_pay582 q)) (ix3 0 t d) = q (ix2 ⟨t.val, by omega⟩ ⟨512 + d.val, by omega⟩) * ((Real.exp ((t.val : ℝ) * logB 0) : ℝ) : EReal) := by
  rw [← exp_from_start]
  pointwise [k0_pay582, k0_pay586, k0_pay588, k0_pay593, k0_pay595, k0_pay609, k0_pay621, k0_pay634, k0_pay641, scalar_add_zero, g0]
  try rfl

theorem key_b01 (q : FVec Ideal S512x1024 .f32) (t : Fin 256) (d : Fin 128) :
    k0_pay600 (k0_pay586 0#32) (k0_pay595 (k0_pay582 q)) (ix3 0 t d) = q (ix2 ⟨t.val, by omega⟩ ⟨640 + d.val, by omega⟩) * ((Real.exp ((t.val : ℝ) * logB 1) : ℝ) : EReal) := by
  rw [← exp_from_start]
  pointwise [k0_pay582, k0_pay586, k0_pay588, k0_pay595, k0_pay600, k0_pay609, k0_pay621, k0_pay634, k0_pay641, scalar_add_zero, g1]
  try rfl

theorem key_b02 (q : FVec Ideal S512x1024 .f32) (t : Fin 256) (d : Fin 128) :
    k0_pay607 (k0_pay586 0#32) (k0_pay602 (k0_pay582 q)) (ix3 0 t d) = q (ix2 ⟨t.val, by omega⟩ ⟨768 + d.val, by omega⟩) * ((Real.exp ((t.val : ℝ) * logB 2) : ℝ) : EReal) := by
  rw [← exp_from_start]
  pointwise [k0_pay582, k0_pay586, k0_pay588, k0_pay595, k0_pay602, k0_pay607, k0_pay609, k0_pay621, k0_pay634, k0_pay641, scalar_add_zero, g2]
  try rfl

theorem key_b03 (q : FVec Ideal S512x1024 .f32) (t : Fin 256) (d : Fin 128) :
    k0_pay613 (k0_pay586 0#32) (k0_pay609 (k0_pay582 q)) (ix3 0 t d) = q (ix2 ⟨t.val, by omega⟩ ⟨896 + d.val, by omega⟩) * ((Real.exp ((t.val : ℝ) * logB 3) : ℝ) : EReal) := by
  rw [← exp_from_start]
  pointwise [k0_pay582, k0_pay586, k0_pay588, k0_pay595, k0_pay609, k0_pay613, k0_pay621, k0_pay634, k0_pay641, scalar_add_zero, g3]
  try rfl

theorem key_b10 (q : FVec Ideal S512x1024 .f32) (t : Fin 256) (d : Fin 128) :
    k0_pay631 (k0_pay624 0#32) (k0_pay626 q) (ix3 0 t d) = q (ix2 ⟨256 + t.val, by omega⟩ ⟨512 + d.val, by omega⟩) * ((Real.exp ((t.val : ℝ) * logB 0) : ℝ) : EReal) := by
  rw [← exp_from_start]
  pointwise [k0_pay586, k0_pay588, k0_pay595, k0_pay609, k0_pay621, k0_pay624, k0_pay626, k0_pay631, k0_pay634, k0_pay641, scalar_add_zero, g0]
  try rfl

theorem key_b11 (q : FVec Ideal S512x1024 .f32) (t : Fin 256) (d : Fin 128) :
    k0_pay639 (k0_pay624 0#32) (k0_pay634 (k0_pay621 q)) k0_pay638 (ix3 0 t d) = q (ix2 ⟨256 + t.val, by omega⟩ ⟨640 + d.val, by omega⟩) * ((Real.exp ((t.val : ℝ) * logB 1) : ℝ) : EReal) := by
  rw [← exp_from_start]
  pointwise [k0_pay586, k0_pay588, k0_pay595, k0_pay609, k0_pay621, k0_pay624, k0_pay634, k0_pay638, k0_pay639, k0_pay641, scalar_add_zero, g1]
  try rfl

theorem key_b12 (q : FVec Ideal S512x1024 .f32) (t : Fin 256) (d : Fin 128) :
    k0_pay646 (k0_pay624 0#32) (k0_pay641 (k0_pay621 q)) (ix3 0 t d) = q (ix2 ⟨256 + t.val, by omega⟩ ⟨768 + d.val, by omega⟩) * ((Real.exp ((t.val : ℝ) * logB 2) : ℝ) : EReal) := by
  rw [← exp_from_start]
  pointwise [k0_pay586, k0_pay588, k0_pay595, k0_pay609, k0_pay621, k0_pay624, k0_pay634, k0_pay641, k0_pay646, scalar_add_zero, g2]
  try rfl

theorem key_b13 (q : FVec Ideal S512x1024 .f32) (t : Fin 256) (d : Fin 128) :
    k0_pay653 (k0_pay624 0#32) (k0_pay648 (k0_pay621 q)) (ix3 0 t d) = q (ix2 ⟨256 + t.val, by omega⟩ ⟨896 + d.val, by omega⟩) * ((Real.exp ((t.val : ℝ) * logB 3) : ℝ) : EReal) := by
  rw [← exp_from_start]
  pointwise [k0_pay586, k0_pay588, k0_pay595, k0_pay609, k0_pay621, k0_pay624, k0_pay634, k0_pay641, k0_pay648, k0_pay653, scalar_add_zero, g3]
  try rfl

theorem value_0 (q : FVec Ideal S512x1024 .f32) (t : Fin 256) (d : Fin 512) :
    k0_pay614 (k0_pay583 q) (ix2 t d) = q (ix2 ⟨t.val, by omega⟩ ⟨d.val, by omega⟩) := by
  pointwise [k0_pay614, k0_pay583]
  try rfl

theorem value_1 (q : FVec Ideal S512x1024 .f32) (t : Fin 256) (d : Fin 512) :
    k0_pay655 (k0_pay654 (k0_pay622 q)) (ix2 t d) = q (ix2 ⟨256 + t.val, by omega⟩ ⟨d.val, by omega⟩) := by
  pointwise [k0_pay655, k0_pay654, k0_pay622]
  try rfl

end Cert.MixerIdeal.Hand

end
-- ==== Proof.Mixer.Closed.lean ====
/- The keys, values and final states of the mixer call, as functions of the point's blocks. -/
module

public import proofs.«01_k».proof.Proof.Mixer.Math

@[expose] public section

set_option maxRecDepth 16384

noncomputable section

namespace Cert.MixerIdeal.Hand

open Cert.MixerIdeal Cert.MixerIdeal.Gen
open Idealize.ShloMosaic Idealize.ShloMosaic.TcCoe Cert.Retention

variable (x1 : Vec Ideal S2x256x1024 .f32) (x2 : Vec Ideal S6x8x1024 .f32) (x3 : Vec Ideal S1x1024 .f32) (x7 x8 : Vec Ideal S1024x1024 .f32)

/-- One entry of the product of the modulated tokens with a block of the weights. -/
def entry (w : Vec Ideal S1024x1024 .f32) (b : Fin 2) (t : Fin 256) (k : Fin 1024) : EReal :=
  proj (fun j => x1 (ix3 b t j)) (fun j => x3 (ix2 0 j)) (fun j => x2 (ix3 1 0 j)) (fun j => x2 (ix3 0 0 j)) (fun j => w (ix2 j k))

/-- The keys, with the forward weight counted back from the first token. -/
def keyF : S2x4x256x128.Idx → EReal := fun y =>
  entry x1 x2 x3 x7 (y 0) (y 2) ⟨512 + ((y 1).val * 128 + (y 3).val), by
    have h1 : (y 1).val < 4 := (y 1).isLt
    have h3 : (y 3).val < 128 := (y 3).isLt
    omega⟩ * ((Real.exp (((y 2).val : ℝ) * -logF (y 1)) : ℝ) : EReal)

/-- The keys, with the backward weight. -/
def keyB : S2x4x256x128.Idx → EReal := fun y =>
  entry x1 x2 x3 x7 (y 0) (y 2) ⟨512 + ((y 1).val * 128 + (y 3).val), by
    have h1 : (y 1).val < 4 := (y 1).isLt
    have h3 : (y 3).val < 128 := (y 3).isLt
    omega⟩ * ((Real.exp (((y 2).val : ℝ) * logB (y 1)) : ℝ) : EReal)

/-- The values. -/
def vals : S2x256x512.Idx → EReal := fun y =>
  entry x1 x2 x3 x8 (y 0) (y 1) ⟨(y 2).val, by
    have h2 : (y 2).val < 512 := (y 2).isLt
    omega⟩

/-- The final states. -/
def final : S2x1x2x4x128x128.Idx → EReal := fun y =>
  state (fun t j => x1 (ix3 (y 0) t j)) (fun j => x3 (ix2 0 j)) (fun j => x2 (ix3 1 0 j)) (fun j => x2 (ix3 0 0 j))
    (fun j => x7 (ix2 j ⟨512 + ((y 3).val * 128 + (y 4).val), by
      have h3 : (y 3).val < 4 := (y 3).isLt
      have h4 : (y 4).val < 128 := (y 4).isLt
      omega⟩))
    (fun j => x8 (ix2 j ⟨(y 3).val * 128 + (y 5).val, by
      have h3 : (y 3).val < 4 := (y 3).isLt
      have h5 : (y 5).val < 128 := (y 5).isLt
      omega⟩)) (y 2) (y 3)

theorem forward_final (b : Fin 2) (h : Fin 4) (d e : Fin 128) :
    (∑ t : Fin 256, keyF x1 x2 x3 x7 (ix4 b h t d) * vals x1 x2 x3 x8 (ix3 b t ⟨h.val * 128 + e.val, by omega⟩)) * ((base h ^ 255 : ℝ) : EReal)
      = final x1 x2 x3 x7 x8 (ix6 b 0 0 h d e) := by
  rw [scaled_sum _ _ (pow_nonneg (base_pos h).le 255)]
  unfold final state
  refine Finset.sum_congr (M := EReal) rfl fun t _ => ?_
  exact power h (t.val : ℝ) _ _

theorem backward_final (b : Fin 2) (h : Fin 4) (d e : Fin 128) :
    (∑ t : Fin 256, keyB x1 x2 x3 x7 (ix4 b h t d) * vals x1 x2 x3 x8 (ix3 b t ⟨h.val * 128 + e.val, by omega⟩))
      = final x1 x2 x3 x7 x8 (ix6 b 0 1 h d e) := by
  unfold final state
  refine Finset.sum_congr (M := EReal) rfl fun t _ => ?_
  exact mul_right_comm _ _ _

theorem shift_at (v : Vec Ideal S1x1x1024 .f32) (j : Fin 1024) : k0_pay566 v (ix2 0 j) = v (ix3 0 0 j) := by
  pointwise [k0_pay566]

theorem gain_at (n : Vec Ideal S1x1024 .f32) (v : Vec Ideal S1x1x1024 .f32) (j : Fin 1024) : k0_pay567 n v (ix2 0 j) = n (ix2 0 j) * (1 + v (ix3 0 0 j)) := by
  pointwise [k0_pay567]
  try rfl

end Cert.MixerIdeal.Hand

end
-- ==== Proof.Mixer.Reads.lean ====
/- The blocks of the mixer call's body read back, the rows of its products, and the final states from the keys and values. -/
module

public import proofs.«01_k».proof.Proof.Mixer.Pieces
public import proofs.«01_k».proof.Proof.Mixer.Closed

@[expose] public section

set_option maxRecDepth 16384

noncomputable section

namespace Cert.MixerIdeal.Hand

open Cert.MixerIdeal Cert.MixerIdeal.Gen
open Idealize.ShloMosaic Idealize.ShloMosaic.TcCoe Cert.Retention

/-- A row of the modulation's table. -/
theorem mod_load (A : Memref sig .tc .vmem S6x8x1024 .f32) (hA : A.IsWhole) (x : Vec Ideal S6x8x1024 .f32) (k : ℕ) (hk : k < 6) (p) (j : Fin 1024) :
    View.readAt (Elt Ideal) A.view (Rect.unit (s := S6x8x1024) ![k, 0, 0] S1x1x1024.size p).toLoadRect (hA.unread x) (ix3 0 0 j : S1x1x1024.Idx) = x (ix3 ⟨k, hk⟩ 0 j) := by
  show A.view.read (Elt Ideal) (hA.unread x) _ = _
  rw [hA.read_unread]
  refine congrArg x (funext fun a => Fin.ext ?_)
  match a with
  | ⟨0, _⟩ => show k + 1 * 0 = k; omega
  | ⟨1, _⟩ => show 0 + 1 * 0 = 0; omega
  | ⟨2, _⟩ => show 0 + 1 * j.val = j.val; omega

/-- The normalisation's gains. -/
theorem gain_load (A : Memref sig .tc .vmem S1x1024 .f32) (hA : A.IsWhole) (x : Vec Ideal S1x1024 .f32) (p) (j : Fin 1024) :
    View.readAt (Elt Ideal) A.view (Rect.unit (s := S1x1024) ![0, 0] S1x1024.size p).toLoadRect (hA.unread x) (ix2 0 j : S1x1024.Idx) = x (ix2 0 j) := by
  show A.view.read (Elt Ideal) (hA.unread x) _ = _
  rw [hA.read_unread]
  refine congrArg x (funext fun a => Fin.ext ?_)
  match a with
  | ⟨0, _⟩ => show 0 + 1 * 0 = 0; omega
  | ⟨1, _⟩ => show 0 + 1 * j.val = j.val; omega

/-- A block of the weights. -/
theorem weights_load (A : Memref sig .tc .vmem S1024x1024 .f32) (hA : A.IsWhole) (x : Vec Ideal S1024x1024 .f32) (p) (j k : Fin 1024) :
    View.readAt (Elt Ideal) A.view (Rect.unit (s := S1024x1024) ![0, 0] S1024x1024.size p).toLoadRect (hA.unread x) (ix2 j k : S1024x1024.Idx) = x (ix2 j k) := by
  show A.view.read (Elt Ideal) (hA.unread x) _ = _
  rw [hA.read_unread]
  refine congrArg x (funext fun a => Fin.ext ?_)
  match a with
  | ⟨0, _⟩ => show 0 + 1 * j.val = j.val; omega
  | ⟨1, _⟩ => show 0 + 1 * k.val = k.val; omega

/-- A batch's tokens. -/
theorem tokens_read (A : Memref sig .tc .vmem S2x256x1024 .f32) (hA : A.IsWhole) (x : Vec Ideal S2x256x1024 .f32) (b : ℕ) (hb : b < 2) (p1 p2 p3 p4 p5 hR) (t : Fin 256) (j : Fin 1024) :
    LoadRect.valAlong (lr := (Rect.unit (s := S256x1024) ![0, 0] S256x1024.size p2).toLoadRect) hR
        (View.readAt (Elt Ideal) A.view ((Rect.unit (s := S2x256x1024) ![b, 0, 0] S1x256x1024.size p1).withinL ((Rect.unit (s := S256x1024) ![0, 0] S256x1024.size p2).toLoadRect.consLift ![1, 256, 1024] p3 p4) p5) (hA.unread x))
        (ix2 t j : S256x1024.Idx) = x (ix3 ⟨b, hb⟩ t j) := by
  refine Eq.trans ?_ (tokens_load x b hb p1 p2 p3 p4 p5 hR t j)
  refine congrArg (fun g => LoadRect.valAlong (lr := (Rect.unit (s := S256x1024) ![0, 0] S256x1024.size p2).toLoadRect) hR g (ix2 t j : S256x1024.Idx)) ?_
  funext y
  show A.view.read (Elt Ideal) (hA.unread x) _ = _
  rw [hA.read_unread]

variable (x1 : Vec Ideal S2x256x1024 .f32) (x2 : Vec Ideal S6x8x1024 .f32) (x3 : Vec Ideal S1x1024 .f32) (x7 x8 : Vec Ideal S1024x1024 .f32)

/-- A row of a product is an entry of the modulated tokens' product. -/
theorem row_entry (w : Vec Ideal S1024x1024 .f32) (b : Fin 2) (t : Fin 256) (k : Fin 1024) (sh g x u : Fin 1024 → EReal)
    (h1 : ∀ j, sh j = x2 (ix3 0 0 j)) (h2 : ∀ j, g j = x3 (ix2 0 j) * (1 + x2 (ix3 1 0 j))) (h3 : ∀ j, x j = x1 (ix3 b t j)) (h4 : ∀ j, u j = w (ix2 j k)) :
    row sh g x u = entry x1 x2 x3 w b t k := by
  obtain rfl := funext h1
  obtain rfl := funext h3
  obtain rfl := funext h4
  exact row_eq _ _ _ _ _ g h2

theorem keyF_at (b : Fin 2) (h : Fin 4) (t : Fin 256) (d : Fin 128) (k : Fin 1024) (hk : k.val = 512 + (h.val * 128 + d.val)) :
    entry x1 x2 x3 x7 b t k * ((Real.exp ((t.val : ℝ) * -logF h) : ℝ) : EReal) = keyF x1 x2 x3 x7 (ix4 b h t d) := by
  rw [show k = ⟨512 + (h.val * 128 + d.val), hk ▸ k.isLt⟩ from Fin.ext hk]
  rfl

theorem keyB_at (b : Fin 2) (h : Fin 4) (t : Fin 256) (d : Fin 128) (k : Fin 1024) (hk : k.val = 512 + (h.val * 128 + d.val)) :
    entry x1 x2 x3 x7 b t k * ((Real.exp ((t.val : ℝ) * logB h) : ℝ) : EReal) = keyB x1 x2 x3 x7 (ix4 b h t d) := by
  rw [show k = ⟨512 + (h.val * 128 + d.val), hk ▸ k.isLt⟩ from Fin.ext hk]
  rfl

/-- A list of pieces holds the function's blocks when its newest and the rest do. -/
theorem pieces_cons {s : Shape} {η : EltTy} (G : s.Idx → Elt Ideal η) (p : View.Piece (Elt Ideal) s η) (L : List (View.Piece (Elt Ideal) s η))
    (h : ∀ x : p.1.shape.Idx, p.2 x = G (p.1.emb x)) (k : View.PiecesOf G L) : View.PiecesOf G (p :: L) := ⟨h, k⟩

theorem pieces_nil {s : Shape} {η : EltTy} (G : s.Idx → Elt Ideal η) : View.PiecesOf G ([] : List (View.Piece (Elt Ideal) s η)) := trivial

/-- Pieces that hold the function's blocks and cover the buffer leave the function. -/
theorem canon_of_pieces {s : Shape} {η : EltTy} (G : s.Idx → Elt Ideal η) (L : List (View.Piece (Elt Ideal) s η)) (h : View.PiecesOf G L)
    (y : s.Idx) (hc : ∃ p ∈ L, y ∈ p.1.set) : View.canon L y = G y := by
  have e := View.canon_append_of_piecesOf G [] L h y hc
  rwa [List.append_nil] at e

/-- A head's block loaded back from a buffer whose pieces leave `G`. -/
theorem head_back (A : Memref sig .tc .vmem S2x4x256x128 .f32) (L : List (View.Piece (Elt Ideal) S2x4x256x128 .f32)) (G : S2x4x256x128.Idx → EReal) (hc : ∀ y, View.canon L y = G y)
    (b h : ℕ) (hb : b < 2) (hh : h < 4) (p1 p2 p3 p4 p5 hR) (t : Fin 256) (d : Fin 128) :
    LoadRect.valAlong (lr := (Rect.unit (s := S4x256x128) ![h, 0, 0] S1x256x128.size p2).toLoadRect) hR
        (A.view.readCov L ((Rect.unit (s := S2x4x256x128) ![b, 0, 0, 0] S1x4x256x128.size p1).withinL ((Rect.unit (s := S4x256x128) ![h, 0, 0] S1x256x128.size p2).toLoadRect.consLift ![1, 4, 256, 128] p3 p4) p5))
        (ix3 0 t d : S1x256x128.Idx) = G (ix4 ⟨b, hb⟩ ⟨h, hh⟩ t d) := by
  refine Eq.trans ?_ (head_load G b h hb hh p1 p2 p3 p4 p5 hR t d)
  refine congrArg (fun g => LoadRect.valAlong (lr := (Rect.unit (s := S4x256x128) ![h, 0, 0] S1x256x128.size p2).toLoadRect) hR g (ix3 0 t d : S1x256x128.Idx)) ?_
  rw [View.readCov_eq_canon']
  exact funext fun y => hc _

/-- A head's values loaded back from a buffer whose pieces leave `G`. -/
theorem values_back (A : Memref sig .tc .vmem S2x256x512 .f32) (L : List (View.Piece (Elt Ideal) S2x256x512 .f32)) (G : S2x256x512.Idx → EReal) (hc : ∀ y, View.canon L y = G y)
    (b o : ℕ) (hb : b < 2) (ho : o + 128 ≤ 512) (p1 p2 p3 p4 p5 hR) (t : Fin 256) (d : Fin 128) :
    LoadRect.valAlong (lr := (Rect.unit (s := S256x512) ![0, o] S256x128.size p2).toLoadRect) hR
        (A.view.readCov L ((Rect.unit (s := S2x256x512) ![b, 0, 0] S1x256x512.size p1).withinL ((Rect.unit (s := S256x512) ![0, o] S256x128.size p2).toLoadRect.consLift ![1, 256, 512] p3 p4) p5))
        (ix2 t d : S256x128.Idx) = G (ix3 ⟨b, hb⟩ t ⟨o + d.val, by omega⟩) := by
  refine Eq.trans ?_ (values_load G b o hb ho p1 p2 p3 p4 p5 hR t d)
  refine congrArg (fun g => LoadRect.valAlong (lr := (Rect.unit (s := S256x512) ![0, o] S256x128.size p2).toLoadRect) hR g (ix2 t d : S256x128.Idx)) ?_
  rw [View.readCov_eq_canon']
  exact funext fun y => hc _

theorem out_f0 (A : Vec Ideal S1x256x128 .f32) (B : Vec Ideal S256x128 .f32) (d e : Fin 128) :
    k0_pay794 (k0_pay793 (k0_pay787 (k0_pay826 A) B)) (ix4 0 0 d e) = (∑ t : Fin 256, A (ix3 0 t d) * B (ix2 t e)) * ((base 0 ^ 255 : ℝ) : EReal) := by
  rw [← final0]
  pointwise [k0_pay787, k0_pay826, k0_pay793, k0_pay794, k0_pay805, k0_pay810, k0_pay832, k0_pay833, k0_pay835, k0_pay840, k0_pay848, k0_pay795]
  try rfl

theorem out_f1 (A : Vec Ideal S1x256x128 .f32) (B : Vec Ideal S256x128 .f32) (d e : Fin 128) :
    k0_pay810 (k0_pay805 A B) (ix4 0 0 d e) = (∑ t : Fin 256, A (ix3 0 t d) * B (ix2 t e)) * ((base 1 ^ 255 : ℝ) : EReal) := by
  rw [← final1]
  pointwise [k0_pay787, k0_pay826, k0_pay793, k0_pay794, k0_pay805, k0_pay810, k0_pay832, k0_pay833, k0_pay835, k0_pay840, k0_pay848, k0_pay795]
  try rfl

theorem out_f2 (A : Vec Ideal S1x256x128 .f32) (B : Vec Ideal S256x128 .f32) (d e : Fin 128) :
    k0_pay833 (k0_pay832 (k0_pay787 (k0_pay826 A) B)) (ix4 0 0 d e) = (∑ t : Fin 256, A (ix3 0 t d) * B (ix2 t e)) * ((base 2 ^ 255 : ℝ) : EReal) := by
  rw [← final2]
  pointwise [k0_pay787, k0_pay826, k0_pay793, k0_pay794, k0_pay805, k0_pay810, k0_pay832, k0_pay833, k0_pay835, k0_pay840, k0_pay848, k0_pay795]
  try rfl

theorem out_f3 (A : Vec Ideal S1x256x128 .f32) (B : Vec Ideal S256x128 .f32) (d e : Fin 128) :
    k0_pay840 (k0_pay835 A B) (ix4 0 0 d e) = (∑ t : Fin 256, A (ix3 0 t d) * B (ix2 t e)) * ((base 3 ^ 255 : ℝ) : EReal) := by
  rw [← final3]
  pointwise [k0_pay787, k0_pay826, k0_pay793, k0_pay794, k0_pay805, k0_pay810, k0_pay832, k0_pay833, k0_pay835, k0_pay840, k0_pay848, k0_pay795]
  try rfl

theorem out_b (A : Vec Ideal S1x256x128 .f32) (B : Vec Ideal S256x128 .f32) (d e : Fin 128) :
    k0_pay795 (k0_pay805 A B) (ix4 0 0 d e) = ∑ t : Fin 256, A (ix3 0 t d) * B (ix2 t e) := by
  pointwise [k0_pay787, k0_pay826, k0_pay793, k0_pay794, k0_pay805, k0_pay810, k0_pay832, k0_pay833, k0_pay835, k0_pay840, k0_pay848, k0_pay795]
  try rfl

/-- A forward final state of head 0, from its keys and values. -/
theorem fwd0 (b : Fin 2) (A : Vec Ideal S1x256x128 .f32) (B : Vec Ideal S256x128 .f32) (hA : ∀ t d, A (ix3 0 t d) = keyF x1 x2 x3 x7 (ix4 b 0 t d))
    (hB : ∀ t (e : Fin 128), B (ix2 t e) = vals x1 x2 x3 x8 (ix3 b t ⟨0 + e.val, by omega⟩)) (d e : Fin 128) :
    k0_pay794 (k0_pay793 (k0_pay787 (k0_pay826 A) B)) (ix4 0 0 d e) = final x1 x2 x3 x7 x8 (ix6 b 0 0 0 d e) :=
  (out_f0 A B d e).trans ((congrArg (· * ((base 0 ^ 255 : ℝ) : EReal)) (Finset.sum_congr (M := EReal) rfl fun t _ => congrArg₂ (· * ·) (hA t d) (hB t e))).trans (forward_final x1 x2 x3 x7 x8 b 0 d e))

/-- A backward final state of head 0, from its keys and values. -/
theorem bwd0 (b : Fin 2) (A : Vec Ideal S1x256x128 .f32) (B : Vec Ideal S256x128 .f32) (hA : ∀ t d, A (ix3 0 t d) = keyB x1 x2 x3 x7 (ix4 b 0 t d))
    (hB : ∀ t (e : Fin 128), B (ix2 t e) = vals x1 x2 x3 x8 (ix3 b t ⟨0 + e.val, by omega⟩)) (d e : Fin 128) :
    k0_pay795 (k0_pay805 A B) (ix4 0 0 d e) = final x1 x2 x3 x7 x8 (ix6 b 0 1 0 d e) :=
  (out_b A B d e).trans ((Finset.sum_congr (M := EReal) rfl fun t _ => congrArg₂ (· * ·) (hA t d) (hB t e)).trans (backward_final x1 x2 x3 x7 x8 b 0 d e))

/-- A forward final state of head 1, from its keys and values. -/
theorem fwd1 (b : Fin 2) (A : Vec Ideal S1x256x128 .f32) (B : Vec Ideal S256x128 .f32) (hA : ∀ t d, A (ix3 0 t d) = keyF x1 x2 x3 x7 (ix4 b 1 t d))
    (hB : ∀ t (e : Fin 128), B (ix2 t e) = vals x1 x2 x3 x8 (ix3 b t ⟨128 + e.val, by omega⟩)) (d e : Fin 128) :
    k0_pay810 (k0_pay805 A B) (ix4 0 0 d e) = final x1 x2 x3 x7 x8 (ix6 b 0 0 1 d e) :=
  (out_f1 A B d e).trans ((congrArg (· * ((base 1 ^ 255 : ℝ) : EReal)) (Finset.sum_congr (M := EReal) rfl fun t _ => congrArg₂ (· * ·) (hA t d) (hB t e))).trans (forward_final x1 x2 x3 x7 x8 b 1 d e))

/-- A backward final state of head 1, from its keys and values. -/
theorem bwd1 (b : Fin 2) (A : Vec Ideal S1x256x128 .f32) (B : Vec Ideal S256x128 .f32) (hA : ∀ t d, A (ix3 0 t d) = keyB x1 x2 x3 x7 (ix4 b 1 t d))
    (hB : ∀ t (e : Fin 128), B (ix2 t e) = vals x1 x2 x3 x8 (ix3 b t ⟨128 + e.val, by omega⟩)) (d e : Fin 128) :
    k0_pay795 (k0_pay805 A B) (ix4 0 0 d e) = final x1 x2 x3 x7 x8 (ix6 b 0 1 1 d e) :=
  (out_b A B d e).trans ((Finset.sum_congr (M := EReal) rfl fun t _ => congrArg₂ (· * ·) (hA t d) (hB t e)).trans (backward_final x1 x2 x3 x7 x8 b 1 d e))

/-- A forward final state of head 2, from its keys and values. -/
theorem fwd2 (b : Fin 2) (A : Vec Ideal S1x256x128 .f32) (B : Vec Ideal S256x128 .f32) (hA : ∀ t d, A (ix3 0 t d) = keyF x1 x2 x3 x7 (ix4 b 2 t d))
    (hB : ∀ t (e : Fin 128), B (ix2 t e) = vals x1 x2 x3 x8 (ix3 b t ⟨256 + e.val, by omega⟩)) (d e : Fin 128) :
    k0_pay833 (k0_pay832 (k0_pay787 (k0_pay826 A) B)) (ix4 0 0 d e) = final x1 x2 x3 x7 x8 (ix6 b 0 0 2 d e) :=
  (out_f2 A B d e).trans ((congrArg (· * ((base 2 ^ 255 : ℝ) : EReal)) (Finset.sum_congr (M := EReal) rfl fun t _ => congrArg₂ (· * ·) (hA t d) (hB t e))).trans (forward_final x1 x2 x3 x7 x8 b 2 d e))

/-- A backward final state of head 2, from its keys and values. -/
theorem bwd2 (b : Fin 2) (A : Vec Ideal S1x256x128 .f32) (B : Vec Ideal S256x128 .f32) (hA : ∀ t d, A (ix3 0 t d) = keyB x1 x2 x3 x7 (ix4 b 2 t d))
    (hB : ∀ t (e : Fin 128), B (ix2 t e) = vals x1 x2 x3 x8 (ix3 b t ⟨256 + e.val, by omega⟩)) (d e : Fin 128) :
    k0_pay795 (k0_pay805 A B) (ix4 0 0 d e) = final x1 x2 x3 x7 x8 (ix6 b 0 1 2 d e) :=
  (out_b A B d e).trans ((Finset.sum_congr (M := EReal) rfl fun t _ => congrArg₂ (· * ·) (hA t d) (hB t e)).trans (backward_final x1 x2 x3 x7 x8 b 2 d e))

/-- A forward final state of head 3, from its keys and values. -/
theorem fwd3 (b : Fin 2) (A : Vec Ideal S1x256x128 .f32) (B : Vec Ideal S256x128 .f32) (hA : ∀ t d, A (ix3 0 t d) = keyF x1 x2 x3 x7 (ix4 b 3 t d))
    (hB : ∀ t (e : Fin 128), B (ix2 t e) = vals x1 x2 x3 x8 (ix3 b t ⟨384 + e.val, by omega⟩)) (d e : Fin 128) :
    k0_pay840 (k0_pay835 A B) (ix4 0 0 d e) = final x1 x2 x3 x7 x8 (ix6 b 0 0 3 d e) :=
  (out_f3 A B d e).trans ((congrArg (· * ((base 3 ^ 255 : ℝ) : EReal)) (Finset.sum_congr (M := EReal) rfl fun t _ => congrArg₂ (· * ·) (hA t d) (hB t e))).trans (forward_final x1 x2 x3 x7 x8 b 3 d e))

/-- A backward final state of head 3, from its keys and values. -/
theorem bwd3 (b : Fin 2) (A : Vec Ideal S1x256x128 .f32) (B : Vec Ideal S256x128 .f32) (hA : ∀ t d, A (ix3 0 t d) = keyB x1 x2 x3 x7 (ix4 b 3 t d))
    (hB : ∀ t (e : Fin 128), B (ix2 t e) = vals x1 x2 x3 x8 (ix3 b t ⟨384 + e.val, by omega⟩)) (d e : Fin 128) :
    k0_pay795 (k0_pay805 A B) (ix4 0 0 d e) = final x1 x2 x3 x7 x8 (ix6 b 0 1 3 d e) :=
  (out_b A B d e).trans ((Finset.sum_congr (M := EReal) rfl fun t _ => congrArg₂ (· * ·) (hA t d) (hB t e)).trans (backward_final x1 x2 x3 x7 x8 b 3 d e))

end Cert.MixerIdeal.Hand

end
-- ==== Proof.Mixer.StatesFirst.lean ====
/- The final retention states a point's run stores (the first point), as the recurrence's own sums. -/
module

public import proofs.«01_k».proof.Proof.Mixer.First
public import proofs.«01_k».proof.Proof.Mixer.Reads

@[expose] public section

set_option maxRecDepth 16384

noncomputable section

namespace Cert.MixerIdeal.Hand.First

open Cert.MixerIdeal Cert.MixerIdeal.Gen Cert.MixerIdeal.Hand
open Idealize.ShloMosaic Idealize.ShloMosaic.TcCoe Cert.Retention

variable (c : Dev nD)
  (arg1 : Memref sig .tc .vmem S2x256x1024 .f32) (harg1 : arg1.IsWhole) (arg2 : Memref sig .tc .vmem S6x8x1024 .f32) (harg2 : arg2.IsWhole)
  (arg3 : Memref sig .tc .vmem S1x1024 .f32) (harg3 : arg3.IsWhole) (arg7 : Memref sig .tc .vmem S1024x1024 .f32) (harg7 : arg7.IsWhole)
  (arg8 : Memref sig .tc .vmem S1024x1024 .f32) (harg8 : arg8.IsWhole) (arg31 arg32 : Memref sig .tc .vmem S2x4x256x128 .f32) (arg33 : Memref sig .tc .vmem S2x256x512 .f32)
  (x1 : Vec Ideal S2x256x1024 .f32) (x2 : Vec Ideal S6x8x1024 .f32) (x3 : Vec Ideal S1x1024 .f32) (x7 x8 : Vec Ideal S1024x1024 .f32)

theorem keys0 (t : Fin 256) (col : Fin 1024) : (runFirst.sl.v99 c arg1 harg1 arg2 harg2 arg3 harg3 arg7 harg7 x1 x2 x3 x7) (ix2 ⟨t.val, by omega⟩ col) = entry x1 x2 x3 x7 0 t col := by
  refine (product577_0 (k0_pay566 _) (k0_pay567 _ _) _ _ _ t col).trans ?_
  exact row_entry x1 x2 x3 x7 0 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 0 (by decide) _ _ _ _ _ _ t j)
    (fun j => weights_load arg7 harg7 x7 _ j col)

theorem keys1 (t : Fin 256) (col : Fin 1024) : (runFirst.sl.v99 c arg1 harg1 arg2 harg2 arg3 harg3 arg7 harg7 x1 x2 x3 x7) (ix2 ⟨256 + t.val, by omega⟩ col) = entry x1 x2 x3 x7 1 t col := by
  refine (product577_1 (k0_pay566 _) (k0_pay567 _ _) _ _ _ t col).trans ?_
  exact row_entry x1 x2 x3 x7 1 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 1 (by decide) _ _ _ _ _ _ t j)
    (fun j => weights_load arg7 harg7 x7 _ j col)

theorem vals0 (t : Fin 256) (col : Fin 1024) : (runFirst.sl.v101 c arg1 harg1 arg2 harg2 arg3 harg3 arg8 harg8 x1 x2 x3 x8) (ix2 ⟨t.val, by omega⟩ col) = entry x1 x2 x3 x8 0 t col := by
  refine (product578_0 (k0_pay566 _) (k0_pay567 _ _) _ _ _ t col).trans ?_
  exact row_entry x1 x2 x3 x8 0 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 0 (by decide) _ _ _ _ _ _ t j)
    (fun j => weights_load arg8 harg8 x8 _ j col)

theorem vals1 (t : Fin 256) (col : Fin 1024) : (runFirst.sl.v101 c arg1 harg1 arg2 harg2 arg3 harg3 arg8 harg8 x1 x2 x3 x8) (ix2 ⟨256 + t.val, by omega⟩ col) = entry x1 x2 x3 x8 1 t col := by
  refine (product578_1 (k0_pay566 _) (k0_pay567 _ _) _ _ _ t col).trans ?_
  exact row_entry x1 x2 x3 x8 1 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 1 (by decide) _ _ _ _ _ _ t j)
    (fun j => weights_load arg8 harg8 x8 _ j col)

theorem keyF_pieces : View.PiecesOf (keyF x1 x2 x3 x7) (runFirst.sl.H31_8 c arg1 harg1 arg2 harg2 arg3 harg3 arg7 harg7 x1 x2 x3 x7) :=
  pieces_cons _ _ _ (fun x => head_piece _ 1 3 (by decide) (by decide) _ _ _ _ (fun _ => rfl) _ _ (fun t d =>
      ((key_f13 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 3 t d _ (by show 896 + d.val = 512 + (3 * 128 + d.val); omega))))) x)
    (pieces_cons _ _ _ (fun x => head_piece _ 1 2 (by decide) (by decide) _ _ _ _ (fun _ => rfl) _ _ (fun t d =>
      ((key_f12 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 2 t d _ (by show 768 + d.val = 512 + (2 * 128 + d.val); omega))))) x)
    (pieces_cons _ _ _ (fun x => head_piece _ 1 1 (by decide) (by decide) _ _ _ _ (fun _ => rfl) _ _ (fun t d =>
      ((key_f11 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 1 t d _ (by show 640 + d.val = 512 + (1 * 128 + d.val); omega))))) x)
    (pieces_cons _ _ _ (fun x => head_piece _ 1 0 (by decide) (by decide) _ _ _ _ (fun _ => rfl) _ _ (fun t d =>
      ((key_f10 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 0 t d _ (by show 512 + d.val = 512 + (0 * 128 + d.val); omega))))) x)
    (pieces_cons _ _ _ (fun x => head_piece _ 0 3 (by decide) (by decide) _ _ _ _ (fun _ => rfl) _ _ (fun t d =>
      ((key_f03 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 3 t d _ (by show 896 + d.val = 512 + (3 * 128 + d.val); omega))))) x)
    (pieces_cons _ _ _ (fun x => head_piece _ 0 2 (by decide) (by decide) _ _ _ _ (fun _ => rfl) _ _ (fun t d =>
      ((key_f02 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 2 t d _ (by show 768 + d.val = 512 + (2 * 128 + d.val); omega))))) x)
    (pieces_cons _ _ _ (fun x => head_piece _ 0 1 (by decide) (by decide) _ _ _ _ (fun _ => rfl) _ _ (fun t d =>
      ((key_f01 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 1 t d _ (by show 640 + d.val = 512 + (1 * 128 + d.val); omega))))) x)
    (pieces_cons _ _ _ (fun x => head_piece _ 0 0 (by decide) (by decide) _ _ _ _ (fun _ => rfl) _ _ (fun t d =>
      ((key_f00 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 0 t d _ (by show 512 + d.val = 512 + (0 * 128 + d.val); omega))))) x)
    (pieces_nil _))))))))

/-- The buffer of forward keys. -/
theorem keyF_canon (y : S2x4x256x128.Idx) : View.canon (runFirst.sl.H31_8 c arg1 harg1 arg2 harg2 arg3 harg3 arg7 harg7 x1 x2 x3 x7) y = keyF x1 x2 x3 x7 y :=
  canon_of_pieces _ _ (keyF_pieces c arg1 harg1 arg2 harg2 arg3 harg3 arg7 harg7 x1 x2 x3 x7) y (View.cover_of_tiledL _ ![1, 1, 256, 128] (by sl_kernel_rfl) y)

theorem keyB_pieces : View.PiecesOf (keyB x1 x2 x3 x7) (runFirst.sl.H32_8 c arg1 harg1 arg2 harg2 arg3 harg3 arg7 harg7 x1 x2 x3 x7) :=
  pieces_cons _ _ _ (fun x => head_piece _ 1 3 (by decide) (by decide) _ _ _ _ (fun _ => rfl) _ _ (fun t d =>
      ((key_b13 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 3 t d _ (by show 896 + d.val = 512 + (3 * 128 + d.val); omega))))) x)
    (pieces_cons _ _ _ (fun x => head_piece _ 1 2 (by decide) (by decide) _ _ _ _ (fun _ => rfl) _ _ (fun t d =>
      ((key_b12 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 2 t d _ (by show 768 + d.val = 512 + (2 * 128 + d.val); omega))))) x)
    (pieces_cons _ _ _ (fun x => head_piece _ 1 1 (by decide) (by decide) _ _ _ _ (fun _ => rfl) _ _ (fun t d =>
      ((key_b11 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 1 t d _ (by show 640 + d.val = 512 + (1 * 128 + d.val); omega))))) x)
    (pieces_cons _ _ _ (fun x => head_piece _ 1 0 (by decide) (by decide) _ _ _ _ (fun _ => rfl) _ _ (fun t d =>
      ((key_b10 (runFirst.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 0 t d _ (by show 512 + d.val = 512 + (0 * 128 + d.val); omega))))) x)
    (pieces_cons _ _ _ (fun x => head_piece _ 0 3 (by decide) (by decide) _ _ _ _ (fun _ => rfl) _ _ (fun t d =>
      ((key_b03 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 3 t d _ (by show 896 + d.val = 512 + (3 * 128 + d.val); omega))))) x)
    (pieces_cons _ _ _ (fun x => head_piece _ 0 2 (by decide) (by decide) _ _ _ _ (fun _ => rfl) _ _ (fun t d =>
      ((key_b02 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 2 t d _ (by show 768 + d.val = 512 + (2 * 128 + d.val); omega))))) x)
    (pieces_cons _ _ _ (fun x => head_piece _ 0 1 (by decide) (by decide) _ _ _ _ (fun _ => rfl) _ _ (fun t d =>
      ((key_b01 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 1 t d _ (by show 640 + d.val = 512 + (1 * 128 + d.val); omega))))) x)
    (pieces_cons _ _ _ (fun x => head_piece _ 0 0 (by decide) (by decide) _ _ _ _ (fun _ => rfl) _ _ (fun t d =>
      ((key_b00 (runFirst.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 0 t d _ (by show 512 + d.val = 512 + (0 * 128 + d.val); omega))))) x)
    (pieces_nil _))))))))

/-- The buffer of backward keys. -/
theorem keyB_canon (y : S2x4x256x128.Idx) : View.canon (runFirst.sl.H32_8 c arg1 harg1 arg2 harg2 arg3 harg3 arg7 harg7 x1 x2 x3 x7) y = keyB x1 x2 x3 x7 y :=
  canon_of_pieces _ _ (keyB_pieces c arg1 harg1 arg2 harg2 arg3 harg3 arg7 harg7 x1 x2 x3 x7) y (View.cover_of_tiledL _ ![1, 1, 256, 128] (by sl_kernel_rfl) y)

theorem vals_pieces : View.PiecesOf (vals x1 x2 x3 x8) (runFirst.sl.H33_2 c arg1 harg1 arg2 harg2 arg3 harg3 arg8 harg8 x1 x2 x3 x8) :=
  pieces_cons _ _ _ (fun x => values_piece _ 1 (by decide) _ _ _ _ (fun _ => rfl) _ _ (fun t d => (value_1 (runFirst.sl.v101 c arg1 harg1 arg2 harg2 arg3 harg3 arg8 harg8 x1 x2 x3 x8) t d).trans (vals1 c arg1 harg1 arg2 harg2 arg3 harg3 arg8 harg8 x1 x2 x3 x8 t _)) x)
    (pieces_cons _ _ _ (fun x => values_piece _ 0 (by decide) _ _ _ _ (fun _ => rfl) _ _ (fun t d => (value_0 (runFirst.sl.v101 c arg1 harg1 arg2 harg2 arg3 harg3 arg8 harg8 x1 x2 x3 x8) t d).trans (vals0 c arg1 harg1 arg2 harg2 arg3 harg3 arg8 harg8 x1 x2 x3 x8 t _)) x)
    (pieces_nil _))

/-- The buffer of values. -/
theorem vals_canon (y : S2x256x512.Idx) : View.canon (runFirst.sl.H33_2 c arg1 harg1 arg2 harg2 arg3 harg3 arg8 harg8 x1 x2 x3 x8) y = vals x1 x2 x3 x8 y :=
  canon_of_pieces _ _ (vals_pieces c arg1 harg1 arg2 harg2 arg3 harg3 arg8 harg8 x1 x2 x3 x8) y (View.cover_of_tiledL _ ![1, 256, 512] (by sl_kernel_rfl) y)

theorem final_pieces : View.PiecesOf (final x1 x2 x3 x7 x8) (runFirst.sl.H21_16 c arg1 harg1 arg2 harg2 arg3 harg3 arg7 harg7 arg8 harg8 arg31 arg32 arg33 x1 x2 x3 x7 x8) :=
  pieces_cons _ _ _ (fun x => state_piece _ 1 1 3 (by decide) (by decide) (by decide) _ _ _ _ _ _ (fun _ => rfl) _ _ (fun d e =>
      bwd3 x1 x2 x3 x7 x8 1 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 1 3 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 384 (by decide) (by decide) _ _ _ _ _ _ t e) d e) x)
    (pieces_cons _ _ _ (fun x => state_piece _ 1 0 3 (by decide) (by decide) (by decide) _ _ _ _ _ _ (fun _ => rfl) _ _ (fun d e =>
      fwd3 x1 x2 x3 x7 x8 1 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 1 3 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 384 (by decide) (by decide) _ _ _ _ _ _ t e) d e) x)
    (pieces_cons _ _ _ (fun x => state_piece _ 0 1 3 (by decide) (by decide) (by decide) _ _ _ _ _ _ (fun _ => rfl) _ _ (fun d e =>
      bwd3 x1 x2 x3 x7 x8 0 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 0 3 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 384 (by decide) (by decide) _ _ _ _ _ _ t e) d e) x)
    (pieces_cons _ _ _ (fun x => state_piece _ 0 0 3 (by decide) (by decide) (by decide) _ _ _ _ _ _ (fun _ => rfl) _ _ (fun d e =>
      fwd3 x1 x2 x3 x7 x8 0 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 0 3 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 384 (by decide) (by decide) _ _ _ _ _ _ t e) d e) x)
    (pieces_cons _ _ _ (fun x => state_piece _ 1 1 2 (by decide) (by decide) (by decide) _ _ _ _ _ _ (fun _ => rfl) _ _ (fun d e =>
      bwd2 x1 x2 x3 x7 x8 1 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 1 2 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 256 (by decide) (by decide) _ _ _ _ _ _ t e) d e) x)
    (pieces_cons _ _ _ (fun x => state_piece _ 1 0 2 (by decide) (by decide) (by decide) _ _ _ _ _ _ (fun _ => rfl) _ _ (fun d e =>
      fwd2 x1 x2 x3 x7 x8 1 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 1 2 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 256 (by decide) (by decide) _ _ _ _ _ _ t e) d e) x)
    (pieces_cons _ _ _ (fun x => state_piece _ 0 1 2 (by decide) (by decide) (by decide) _ _ _ _ _ _ (fun _ => rfl) _ _ (fun d e =>
      bwd2 x1 x2 x3 x7 x8 0 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 0 2 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 256 (by decide) (by decide) _ _ _ _ _ _ t e) d e) x)
    (pieces_cons _ _ _ (fun x => state_piece _ 0 0 2 (by decide) (by decide) (by decide) _ _ _ _ _ _ (fun _ => rfl) _ _ (fun d e =>
      fwd2 x1 x2 x3 x7 x8 0 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 0 2 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 256 (by decide) (by decide) _ _ _ _ _ _ t e) d e) x)
    (pieces_cons _ _ _ (fun x => state_piece _ 1 1 1 (by decide) (by decide) (by decide) _ _ _ _ _ _ (fun _ => rfl) _ _ (fun d e =>
      bwd1 x1 x2 x3 x7 x8 1 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 1 1 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 128 (by decide) (by decide) _ _ _ _ _ _ t e) d e) x)
    (pieces_cons _ _ _ (fun x => state_piece _ 1 0 1 (by decide) (by decide) (by decide) _ _ _ _ _ _ (fun _ => rfl) _ _ (fun d e =>
      fwd1 x1 x2 x3 x7 x8 1 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 1 1 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 128 (by decide) (by decide) _ _ _ _ _ _ t e) d e) x)
    (pieces_cons _ _ _ (fun x => state_piece _ 0 1 1 (by decide) (by decide) (by decide) _ _ _ _ _ _ (fun _ => rfl) _ _ (fun d e =>
      bwd1 x1 x2 x3 x7 x8 0 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 0 1 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 128 (by decide) (by decide) _ _ _ _ _ _ t e) d e) x)
    (pieces_cons _ _ _ (fun x => state_piece _ 0 0 1 (by decide) (by decide) (by decide) _ _ _ _ _ _ (fun _ => rfl) _ _ (fun d e =>
      fwd1 x1 x2 x3 x7 x8 0 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 0 1 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 128 (by decide) (by decide) _ _ _ _ _ _ t e) d e) x)
    (pieces_cons _ _ _ (fun x => state_piece _ 1 1 0 (by decide) (by decide) (by decide) _ _ _ _ _ _ (fun _ => rfl) _ _ (fun d e =>
      bwd0 x1 x2 x3 x7 x8 1 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 1 0 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 0 (by decide) (by decide) _ _ _ _ _ _ t e) d e) x)
    (pieces_cons _ _ _ (fun x => state_piece _ 1 0 0 (by decide) (by decide) (by decide) _ _ _ _ _ _ (fun _ => rfl) _ _ (fun d e =>
      fwd0 x1 x2 x3 x7 x8 1 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 1 0 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 1 0 (by decide) (by decide) _ _ _ _ _ _ t e) d e) x)
    (pieces_cons _ _ _ (fun x => state_piece _ 0 1 0 (by decide) (by decide) (by decide) _ _ _ _ _ _ (fun _ => rfl) _ _ (fun d e =>
      bwd0 x1 x2 x3 x7 x8 0 _ _ (fun t d => head_back arg32 (runFirst.sl.H32_8 c arg1 harg1 arg2 harg2 arg3 harg3 arg7 harg7 x1 x2 x3 x7) _ (keyB_canon c arg1 harg1 arg2 harg2 arg3 harg3 arg7 harg7 x1 x2 x3 x7) 0 0 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 0 (by decide) (by decide) _ _ _ _ _ _ t e) d e) x)
    (pieces_cons _ _ _ (fun x => state_piece _ 0 0 0 (by decide) (by decide) (by decide) _ _ _ _ _ _ (fun _ => rfl) _ _ (fun d e =>
      fwd0 x1 x2 x3 x7 x8 0 _ _ (fun t d => head_back arg31 (runFirst.sl.H31_8 c arg1 harg1 arg2 harg2 arg3 harg3 arg7 harg7 x1 x2 x3 x7) _ (keyF_canon c arg1 harg1 arg2 harg2 arg3 harg3 arg7 harg7 x1 x2 x3 x7) 0 0 (by decide) (by decide) _ _ _ _ _ _ t d)
        (fun t e => values_back arg33 (runFirst.sl.H33_2 c arg1 harg1 arg2 harg2 arg3 harg3 arg8 harg8 x1 x2 x3 x8) _ (vals_canon c arg1 harg1 arg2 harg2 arg3 harg3 arg8 harg8 x1 x2 x3 x8) 0 0 (by decide) (by decide) _ _ _ _ _ _ t e) d e) x)
    (pieces_nil _))))))))))))))))

/-- The states' block. -/
theorem final_canon (y : S2x1x2x4x128x128.Idx) : View.canon (runFirst.sl.H21_16 c arg1 harg1 arg2 harg2 arg3 harg3 arg7 harg7 arg8 harg8 arg31 arg32 arg33 x1 x2 x3 x7 x8) y = final x1 x2 x3 x7 x8 y :=
  canon_of_pieces _ _ (final_pieces c arg1 harg1 arg2 harg2 arg3 harg3 arg7 harg7 arg8 harg8 arg31 arg32 arg33 x1 x2 x3 x7 x8) y (View.cover_of_tiledL _ ![1, 1, 1, 1, 128, 128] (by sl_kernel_rfl) y)

end Cert.MixerIdeal.Hand.First

end
-- ==== Proof.Mixer.StatesLater.lean ====
/- The final retention states a point's run stores (a later point), as the recurrence's own sums. -/
module

public import proofs.«01_k».proof.Proof.Mixer.Later
public import proofs.«01_k».proof.Proof.Mixer.Reads

@[expose] public section

set_option maxRecDepth 16384

noncomputable section

namespace Cert.MixerIdeal.Hand.Later

open Cert.MixerIdeal Cert.MixerIdeal.Gen Cert.MixerIdeal.Hand
open Idealize.ShloMosaic Idealize.ShloMosaic.TcCoe Cert.Retention

variable (c : Dev nD)
  (arg1 : Memref sig .tc .vmem S2x256x1024 .f32) (harg1 : arg1.IsWhole) (arg2 : Memref sig .tc .vmem S6x8x1024 .f32) (harg2 : arg2.IsWhole)
  (arg3 : Memref sig .tc .vmem S1x1024 .f32) (harg3 : arg3.IsWhole) (arg7 : Memref sig .tc .vmem S1024x1024 .f32) (harg7 : arg7.IsWhole)
  (arg8 : Memref sig .tc .vmem S1024x1024 .f32) (harg8 : arg8.IsWhole) (arg31 arg32 : Memref sig .tc .vmem S2x4x256x128 .f32) (arg33 : Memref sig .tc .vmem S2x256x512 .f32)
  (x1 : Vec Ideal S2x256x1024 .f32) (x2 : Vec Ideal S6x8x1024 .f32) (x3 : Vec Ideal S1x1024 .f32) (x7 x8 : Vec Ideal S1024x1024 .f32)

theorem keys0 (t : Fin 256) (col : Fin 1024) : (runLater.sl.v99 c arg1 harg1 arg2 harg2 arg3 harg3 arg7 harg7 x1 x2 x3 x7) (ix2 ⟨t.val, by omega⟩ col) = entry x1 x2 x3 x7 0 t col := by
  refine (product577_0 (k0_pay566 _) (k0_pay567 _ _) _ _ _ t col).trans ?_
  exact row_entry x1 x2 x3 x7 0 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 0 (by decide) _ _ _ _ _ _ t j)
    (fun j => weights_load arg7 harg7 x7 _ j col)

theorem keys1 (t : Fin 256) (col : Fin 1024) : (runLater.sl.v99 c arg1 harg1 arg2 harg2 arg3 harg3 arg7 harg7 x1 x2 x3 x7) (ix2 ⟨256 + t.val, by omega⟩ col) = entry x1 x2 x3 x7 1 t col := by
  refine (product577_1 (k0_pay566 _) (k0_pay567 _ _) _ _ _ t col).trans ?_
  exact row_entry x1 x2 x3 x7 1 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 1 (by decide) _ _ _ _ _ _ t j)
    (fun j => weights_load arg7 harg7 x7 _ j col)

theorem vals0 (t : Fin 256) (col : Fin 1024) : (runLater.sl.v101 c arg1 harg1 arg2 harg2 arg3 harg3 arg8 harg8 x1 x2 x3 x8) (ix2 ⟨t.val, by omega⟩ col) = entry x1 x2 x3 x8 0 t col := by
  refine (product578_0 (k0_pay566 _) (k0_pay567 _ _) _ _ _ t col).trans ?_
  exact row_entry x1 x2 x3 x8 0 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 0 (by decide) _ _ _ _ _ _ t j)
    (fun j => weights_load arg8 harg8 x8 _ j col)

theorem vals1 (t : Fin 256) (col : Fin 1024) : (runLater.sl.v101 c arg1 harg1 arg2 harg2 arg3 harg3 arg8 harg8 x1 x2 x3 x8) (ix2 ⟨256 + t.val, by omega⟩ col) = entry x1 x2 x3 x8 1 t col := by
  refine (product578_1 (k0_pay566 _) (k0_pay567 _ _) _ _ _ t col).trans ?_
  exact row_entry x1 x2 x3 x8 1 t col _ _ _ _
    (fun j => (shift_at _ j).trans (mod_load arg2 harg2 x2 0 (by decide) _ j))
    (fun j => (gain_at _ _ j).trans (congrArg₂ (fun a b => a * (1 + b)) (gain_load arg3 harg3 x3 _ j) (mod_load arg2 harg2 x2 1 (by decide) _ j)))
    (fun j => tokens_read arg1 harg1 x1 1 (by decide) _ _ _ _ _ _ t j)
    (fun j => weights_load arg8 harg8 x8 _ j col)

theorem keyF_pieces : View.PiecesOf (keyF x1 x2 x3 x7) (runLater.sl.H31_8 c arg1 harg1 arg2 harg2 arg3 harg3 arg7 harg7 x1 x2 x3 x7) :=
  pieces_cons _ _ _ (fun x => head_piece _ 1 3 (by decide) (by decide) _ _ _ _ (fun _ => rfl) _ _ (fun t d =>
      ((key_f13 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 3 t d _ (by show 896 + d.val = 512 + (3 * 128 + d.val); omega))))) x)
    (pieces_cons _ _ _ (fun x => head_piece _ 1 2 (by decide) (by decide) _ _ _ _ (fun _ => rfl) _ _ (fun t d =>
      ((key_f12 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 2 t d _ (by show 768 + d.val = 512 + (2 * 128 + d.val); omega))))) x)
    (pieces_cons _ _ _ (fun x => head_piece _ 1 1 (by decide) (by decide) _ _ _ _ (fun _ => rfl) _ _ (fun t d =>
      ((key_f11 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 1 t d _ (by show 640 + d.val = 512 + (1 * 128 + d.val); omega))))) x)
    (pieces_cons _ _ _ (fun x => head_piece _ 1 0 (by decide) (by decide) _ _ _ _ (fun _ => rfl) _ _ (fun t d =>
      ((key_f10 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyF_at x1 x2 x3 x7 1 0 t d _ (by show 512 + d.val = 512 + (0 * 128 + d.val); omega))))) x)
    (pieces_cons _ _ _ (fun x => head_piece _ 0 3 (by decide) (by decide) _ _ _ _ (fun _ => rfl) _ _ (fun t d =>
      ((key_f03 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 3 t d _ (by show 896 + d.val = 512 + (3 * 128 + d.val); omega))))) x)
    (pieces_cons _ _ _ (fun x => head_piece _ 0 2 (by decide) (by decide) _ _ _ _ (fun _ => rfl) _ _ (fun t d =>
      ((key_f02 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 2 t d _ (by show 768 + d.val = 512 + (2 * 128 + d.val); omega))))) x)
    (pieces_cons _ _ _ (fun x => head_piece _ 0 1 (by decide) (by decide) _ _ _ _ (fun _ => rfl) _ _ (fun t d =>
      ((key_f01 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 1 t d _ (by show 640 + d.val = 512 + (1 * 128 + d.val); omega))))) x)
    (pieces_cons _ _ _ (fun x => head_piece _ 0 0 (by decide) (by decide) _ _ _ _ (fun _ => rfl) _ _ (fun t d =>
      ((key_f00 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyF_at x1 x2 x3 x7 0 0 t d _ (by show 512 + d.val = 512 + (0 * 128 + d.val); omega))))) x)
    (pieces_nil _))))))))

/-- The buffer of forward keys. -/
theorem keyF_canon (y : S2x4x256x128.Idx) : View.canon (runLater.sl.H31_8 c arg1 harg1 arg2 harg2 arg3 harg3 arg7 harg7 x1 x2 x3 x7) y = keyF x1 x2 x3 x7 y :=
  canon_of_pieces _ _ (keyF_pieces c arg1 harg1 arg2 harg2 arg3 harg3 arg7 harg7 x1 x2 x3 x7) y (View.cover_of_tiledL _ ![1, 1, 256, 128] (by sl_kernel_rfl) y)

theorem keyB_pieces : View.PiecesOf (keyB x1 x2 x3 x7) (runLater.sl.H32_8 c arg1 harg1 arg2 harg2 arg3 harg3 arg7 harg7 x1 x2 x3 x7) :=
  pieces_cons _ _ _ (fun x => head_piece _ 1 3 (by decide) (by decide) _ _ _ _ (fun _ => rfl) _ _ (fun t d =>
      ((key_b13 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 3 t d _ (by show 896 + d.val = 512 + (3 * 128 + d.val); omega))))) x)
    (pieces_cons _ _ _ (fun x => head_piece _ 1 2 (by decide) (by decide) _ _ _ _ (fun _ => rfl) _ _ (fun t d =>
      ((key_b12 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 2 t d _ (by show 768 + d.val = 512 + (2 * 128 + d.val); omega))))) x)
    (pieces_cons _ _ _ (fun x => head_piece _ 1 1 (by decide) (by decide) _ _ _ _ (fun _ => rfl) _ _ (fun t d =>
      ((key_b11 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 1 t d _ (by show 640 + d.val = 512 + (1 * 128 + d.val); omega))))) x)
    (pieces_cons _ _ _ (fun x => head_piece _ 1 0 (by decide) (by decide) _ _ _ _ (fun _ => rfl) _ _ (fun t d =>
      ((key_b10 (runLater.sl.v99 c arg1 harg1 arg2 harg2 arg3 harg3 arg7 harg7 x1 x2 x3 x7) t d).trans ((congrArg (· * _) (keys1 c arg1 harg1 arg2 harg2 arg3 harg3 arg7 harg7 x1 x2 x3 x7 t _)).trans (keyB_at x1 x2 x3 x7 1 0 t d _ (by show 512 + d.val = 512 + (0 * 128 + d.val); omega))))) x)
    (pieces_cons _ _ _ (fun x => head_piece _ 0 3 (by decide) (by decide) _ _ _ _ (fun _ => rfl) _ _ (fun t d =>
      ((key_b03 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 3 t d _ (by show 896 + d.val = 512 + (3 * 128 + d.val); omega))))) x)
    (pieces_cons _ _ _ (fun x => head_piece _ 0 2 (by decide) (by decide) _ _ _ _ (fun _ => rfl) _ _ (fun t d =>
      ((key_b02 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 2 t d _ (by show 768 + d.val = 512 + (2 * 128 + d.val); omega))))) x)
    (pieces_cons _ _ _ (fun x => head_piece _ 0 1 (by decide) (by decide) _ _ _ _ (fun _ => rfl) _ _ (fun t d =>
      ((key_b01 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 1 t d _ (by show 640 + d.val = 512 + (1 * 128 + d.val); omega))))) x)
    (pieces_cons _ _ _ (fun x => head_piece _ 0 0 (by decide) (by decide) _ _ _ _ (fun _ => rfl) _ _ (fun t d =>
      ((key_b00 (runLater.sl.v99 c arg1 harg1 arg2 harg2 arg3 harg3 arg7 harg7 x1 x2 x3 x7) t d).trans ((congrArg (· * _) (keys0 c arg1 harg1 arg2 harg2 arg3 harg3 arg7 harg7 x1 x2 x3 x7 t _)).trans (keyB_at x1 x2 x3 x7 0 0 t d _ (by show 512 + d.val = 512 + (0 * 128 + d.val); omega))))) x)
    (pieces_nil _))))))))

/-- The buffer of backward keys. -/
theorem keyB_canon (y : S2x4x256x128.Idx) : View.canon (runLater.sl.H32_8 c arg1 harg1 arg2 harg2 arg3 harg3 arg7 harg7 x1 x2 x3 x7) y = keyB x1 x2 x3 x7 y :=
  canon_of_pieces _ _ (keyB_pieces c arg1 harg1 arg2 harg2 arg3 harg3 arg7 harg7 x1 x2 x3 x7) y (View.cover_of_tiledL _ ![1, 1, 256, 128] (by sl_kernel_rfl) y)

theorem vals_pieces : View.PiecesOf (vals x1 x2 x3 x8) (runLater.sl.H33_2 c arg1 harg1 arg2 harg2 arg3 harg3 arg8 harg8 x1 x2 x3 x8) :=
  pieces_cons _ _ _ (fun x => values_piece _ 1 (by decide) _ _ _ _ (fun _ => rfl) _ _ (fun t d => (value_1 (runLater.sl.v101 c arg1 harg1 arg2 harg2 arg3 harg3 arg8 harg8 x1 x2 x3 x8) t d).trans (vals1 c arg1 harg1 arg2 harg2 arg3 harg3 arg8 harg8 x1 x2 x3 x8 t _)) x)
    (pieces_cons _ _ _ (fun x => values_piece _ 0 (by decide) _ _ _ _ (fun _ => rfl) _ _ (fun t d => (value_0 (runLater.sl.v101 c arg1 harg1 arg2 harg2 arg3 harg3 arg8 harg8 x1 x2 x3 x8) t d).trans (vals0 c arg1 harg1 arg2 harg2 arg3 harg3 arg8 harg8 x1 x2 x3 x8 t _)) x)
    (pieces_nil _))

/-- The buffer of values. -/
theorem vals_canon (y : S2x256x512.Idx) : View.canon (runLater.sl.H33_2 c arg1 harg1 arg2 harg2 arg3 harg3 arg8 harg8 x1 x2 x3 x8) y = vals x1 x2 x3 x8 y :=
  canon_of_pieces _ _ (vals_pieces c arg1 harg1 arg2 harg2 arg3 harg3 arg8 harg8 x1 x2 x3 x8) y (View.cover_of_tiledL _ ![1, 256, 512] (by sl_kernel_rfl) y)

theorem final_pieces : View.PiecesOf (final x1 x2 x3 x7 x8) (runLater.sl.H21_16 c arg1 harg1 arg2 harg2 arg3 harg3 arg7 harg7 arg8 harg8 arg31 arg32 arg33 x1 x2 x3 x7 x8) :=
  pieces_cons _ _ _ (fun x => state_piece _ 1 1 3 (by decide) (by decide) (by decide) _ _ _ _ _ _ (fun _ => rfl) _ _ (fun d e =>
      bwd3 x1 x2 x3 x7 x8 1 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 1 3 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 384 (by decide) (by decide) _ _ _ _ _ _ t e) d e) x)
    (pieces_cons _ _ _ (fun x => state_piece _ 1 0 3 (by decide) (by decide) (by decide) _ _ _ _ _ _ (fun _ => rfl) _ _ (fun d e =>
      fwd3 x1 x2 x3 x7 x8 1 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 1 3 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 384 (by decide) (by decide) _ _ _ _ _ _ t e) d e) x)
    (pieces_cons _ _ _ (fun x => state_piece _ 0 1 3 (by decide) (by decide) (by decide) _ _ _ _ _ _ (fun _ => rfl) _ _ (fun d e =>
      bwd3 x1 x2 x3 x7 x8 0 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 0 3 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 384 (by decide) (by decide) _ _ _ _ _ _ t e) d e) x)
    (pieces_cons _ _ _ (fun x => state_piece _ 0 0 3 (by decide) (by decide) (by decide) _ _ _ _ _ _ (fun _ => rfl) _ _ (fun d e =>
      fwd3 x1 x2 x3 x7 x8 0 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 0 3 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 384 (by decide) (by decide) _ _ _ _ _ _ t e) d e) x)
    (pieces_cons _ _ _ (fun x => state_piece _ 1 1 2 (by decide) (by decide) (by decide) _ _ _ _ _ _ (fun _ => rfl) _ _ (fun d e =>
      bwd2 x1 x2 x3 x7 x8 1 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 1 2 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 256 (by decide) (by decide) _ _ _ _ _ _ t e) d e) x)
    (pieces_cons _ _ _ (fun x => state_piece _ 1 0 2 (by decide) (by decide) (by decide) _ _ _ _ _ _ (fun _ => rfl) _ _ (fun d e =>
      fwd2 x1 x2 x3 x7 x8 1 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 1 2 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 256 (by decide) (by decide) _ _ _ _ _ _ t e) d e) x)
    (pieces_cons _ _ _ (fun x => state_piece _ 0 1 2 (by decide) (by decide) (by decide) _ _ _ _ _ _ (fun _ => rfl) _ _ (fun d e =>
      bwd2 x1 x2 x3 x7 x8 0 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 0 2 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 256 (by decide) (by decide) _ _ _ _ _ _ t e) d e) x)
    (pieces_cons _ _ _ (fun x => state_piece _ 0 0 2 (by decide) (by decide) (by decide) _ _ _ _ _ _ (fun _ => rfl) _ _ (fun d e =>
      fwd2 x1 x2 x3 x7 x8 0 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 0 2 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 256 (by decide) (by decide) _ _ _ _ _ _ t e) d e) x)
    (pieces_cons _ _ _ (fun x => state_piece _ 1 1 1 (by decide) (by decide) (by decide) _ _ _ _ _ _ (fun _ => rfl) _ _ (fun d e =>
      bwd1 x1 x2 x3 x7 x8 1 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 1 1 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 128 (by decide) (by decide) _ _ _ _ _ _ t e) d e) x)
    (pieces_cons _ _ _ (fun x => state_piece _ 1 0 1 (by decide) (by decide) (by decide) _ _ _ _ _ _ (fun _ => rfl) _ _ (fun d e =>
      fwd1 x1 x2 x3 x7 x8 1 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 1 1 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 128 (by decide) (by decide) _ _ _ _ _ _ t e) d e) x)
    (pieces_cons _ _ _ (fun x => state_piece _ 0 1 1 (by decide) (by decide) (by decide) _ _ _ _ _ _ (fun _ => rfl) _ _ (fun d e =>
      bwd1 x1 x2 x3 x7 x8 0 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 0 1 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 128 (by decide) (by decide) _ _ _ _ _ _ t e) d e) x)
    (pieces_cons _ _ _ (fun x => state_piece _ 0 0 1 (by decide) (by decide) (by decide) _ _ _ _ _ _ (fun _ => rfl) _ _ (fun d e =>
      fwd1 x1 x2 x3 x7 x8 0 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 0 1 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 128 (by decide) (by decide) _ _ _ _ _ _ t e) d e) x)
    (pieces_cons _ _ _ (fun x => state_piece _ 1 1 0 (by decide) (by decide) (by decide) _ _ _ _ _ _ (fun _ => rfl) _ _ (fun d e =>
      bwd0 x1 x2 x3 x7 x8 1 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 1 0 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 0 (by decide) (by decide) _ _ _ _ _ _ t e) d e) x)
    (pieces_cons _ _ _ (fun x => state_piece _ 1 0 0 (by decide) (by decide) (by decide) _ _ _ _ _ _ (fun _ => rfl) _ _ (fun d e =>
      fwd0 x1 x2 x3 x7 x8 1 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 1 0 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 1 0 (by decide) (by decide) _ _ _ _ _ _ t e) d e) x)
    (pieces_cons _ _ _ (fun x => state_piece _ 0 1 0 (by decide) (by decide) (by decide) _ _ _ _ _ _ (fun _ => rfl) _ _ (fun d e =>
      bwd0 x1 x2 x3 x7 x8 0 _ _ (fun t d => head_back arg32 (runLater.sl.H32_8 c arg1 harg1 arg2 harg2 arg3 harg3 arg7 harg7 x1 x2 x3 x7) _ (keyB_canon c arg1 harg1 arg2 harg2 arg3 harg3 arg7 harg7 x1 x2 x3 x7) 0 0 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 0 (by decide) (by decide) _ _ _ _ _ _ t e) d e) x)
    (pieces_cons _ _ _ (fun x => state_piece _ 0 0 0 (by decide) (by decide) (by decide) _ _ _ _ _ _ (fun _ => rfl) _ _ (fun d e =>
      fwd0 x1 x2 x3 x7 x8 0 _ _ (fun t d => head_back arg31 (runLater.sl.H31_8 c arg1 harg1 arg2 harg2 arg3 harg3 arg7 harg7 x1 x2 x3 x7) _ (keyF_canon c arg1 harg1 arg2 harg2 arg3 harg3 arg7 harg7 x1 x2 x3 x7) 0 0 (by decide) (by decide) _ _ _ _ _ _ t d)
        (fun t e => values_back arg33 (runLater.sl.H33_2 c arg1 harg1 arg2 harg2 arg3 harg3 arg8 harg8 x1 x2 x3 x8) _ (vals_canon c arg1 harg1 arg2 harg2 arg3 harg3 arg8 harg8 x1 x2 x3 x8) 0 0 (by decide) (by decide) _ _ _ _ _ _ t e) d e) x)
    (pieces_nil _))))))))))))))))

/-- The states' block. -/
theorem final_canon (y : S2x1x2x4x128x128.Idx) : View.canon (runLater.sl.H21_16 c arg1 harg1 arg2 harg2 arg3 harg3 arg7 harg7 arg8 harg8 arg31 arg32 arg33 x1 x2 x3 x7 x8) y = final x1 x2 x3 x7 x8 y :=
  canon_of_pieces _ _ (final_pieces c arg1 harg1 arg2 harg2 arg3 harg3 arg7 harg7 arg8 harg8 arg31 arg32 arg33 x1 x2 x3 x7 x8) y (View.cover_of_tiledL _ ![1, 1, 1, 1, 128, 128] (by sl_kernel_rfl) y)

end Cert.MixerIdeal.Hand.Later

end
-- ==== Proof.Mixer.Value.lean ====
/- The mixer call's array of final retention states, in the problem's coordinates. -/
module

public import proofs.«01_k».proof.Proof.Mixer.Launch
public import proofs.«01_k».proof.Proof.Mixer.StatesFirst
public import proofs.«01_k».proof.Proof.Mixer.StatesLater
public import Idealize.ShloMosaic.Lib.Pipeline.ValueKit

@[expose] public section

set_option maxRecDepth 16384

noncomputable section

namespace Cert.MixerIdeal.Hand

open Cert.MixerIdeal Cert.MixerIdeal.Gen
open Idealize.ShloMosaic Idealize.ShloMosaic.TcCoe Idealize.SL.Sem Cert.Retention
open Idealize.ShloMosaic.Pipeline (Dat)

variable (m : (ℓ : Loc nD τ sig) → Buf (Elt Ideal) ℓ) (ρ : Dev nD → PrngReg)

theorem idx_0 : ∀ t : Fin cfg0.N, win0_0.index t = ![t.val, 0, 0] := (by decide +kernel : ∀ t : Fin grid0.N, win0_0.index t = ![t.val, 0, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, 0] := (by decide +kernel : ∀ t : Fin grid0.N, win0_2.index t = ![0, 0])
theorem idx_6 : ∀ t : Fin cfg0.N, win0_6.index t = ![0, 1] := (by decide +kernel : ∀ t : Fin grid0.N, win0_6.index t = ![0, 1])
theorem idx_7 : ∀ t : Fin cfg0.N, win0_7.index t = ![0, 2] := (by decide +kernel : ∀ t : Fin grid0.N, win0_7.index t = ![0, 2])
theorem idx_19 : ∀ t : Fin cfg0.N, win0_19.index t = ![t.val, 0, 0, 0, 0, 0] := (by decide +kernel : ∀ t : Fin grid0.N, win0_19.index t = ![t.val, 0, 0, 0, 0, 0])

/-- The gains' row is the host's copy of the normalisation weights with a leading unit axis. -/
theorem V_gain (c : Dev nD) : V m c main_v0 = (broadcastInDim S1x1024 ![1] bcast_S1024_S1x1024_1 (m ((c : Thread nD τ).loc main_arg2) : Vec Ideal S1024 .f32) : Vec Ideal S1x1024 .f32) := by
  unfold V
  simp only [hostOps0, hostOps0_1, hostOps0_2, hostOps0_3, hostOps0_4, hostOps0_5, List.flatten_cons, List.flatten_nil, List.append_nil, List.cons_append, List.nil_append]
  rw [StableHlo.after_cons, StableHlo.after_cons, StableHlo.after_of_forall_not_mem (b := Proc.devRef .tc main_v0)]
  · rw [StableHlo.unary_result, StableHlo.nullary_result_ne]
    decide
  · refine List.forall_iff_forall_mem.mp ?_
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

abbrev X (c : Dev nD) : Vec Ideal S16x256x1024 .f32 := m ((c : Thread nD τ).loc main_arg0)
abbrev MOD (c : Dev nD) : Vec Ideal S6x8x1024 .f32 := m ((c : Thread nD τ).loc main_arg1)
abbrev N1 (c : Dev nD) : Vec Ideal S1024 .f32 := m ((c : Thread nD τ).loc main_arg2)
abbrev W (c : Dev nD) : Vec Ideal S1024x3072 .f32 := m ((c : Thread nD τ).loc main_arg5)

theorem blk_0 (c : Dev nD) (t : Fin cfg0.N) (b : Fin 2) (g : Fin 16) (hg : g.val = 2 * t.val + b.val) (k : Fin 256) (j : Fin 1024) :
    (iblk m c 0 t : Vec Ideal S2x256x1024 .f32) (ix3 b k j) = X m c (ix3 g k j) := by
  rw [show X m c = V m c main_arg0 from (V_main_arg0 m c).symm]
  blk_ext [iblk, idx_0 t]
theorem blk_1 (c : Dev nD) (t : Fin cfg0.N) (k : Fin 6) (j : Fin 1024) :
    (iblk m c 1 t : Vec Ideal S6x8x1024 .f32) (ix3 k 0 j) = MOD m c (ix3 k 0 j) := by
  rw [show MOD m c = V m c main_arg1 from (V_main_arg1 m c).symm]
  blk_ext [iblk, idx_1 t]
theorem blk_2 (c : Dev nD) (t : Fin cfg0.N) (j : Fin 1024) :
    (iblk m c 2 t : Vec Ideal S1x1024 .f32) (ix2 0 j) = N1 m c (ix1 j) := by
  have e : (iblk m c 2 t : Vec Ideal S1x1024 .f32) (ix2 0 j) = (V m c main_v0 : Vec Ideal S1x1024 .f32) (ix2 0 j) := by
    blk_ext [iblk, idx_2 t]
  rw [e, V_gain]
  pointwise
theorem blk_6 (c : Dev nD) (t : Fin cfg0.N) (j k : Fin 1024) (q : Fin 3072) (hq : q.val = 1024 + k.val) :
    (iblk m c 6 t : Vec Ideal S1024x1024 .f32) (ix2 j k) = W m c (ix2 j q) := by
  rw [show W m c = V m c main_arg5 from (V_main_arg5 m c).symm]
  blk_ext [iblk, idx_6 t]
theorem blk_7 (c : Dev nD) (t : Fin cfg0.N) (j k : Fin 1024) (q : Fin 3072) (hq : q.val = 2048 + k.val) :
    (iblk m c 7 t : Vec Ideal S1024x1024 .f32) (ix2 j k) = W m c (ix2 j q) := by
  rw [show W m c = V m c main_arg5 from (V_main_arg5 m c).symm]
  blk_ext [iblk, idx_7 t]

/-- The final retention states of the whole batch, both directions. -/
def states (c : Dev nD) : Vec Ideal S16x1x2x4x128x128 .f32 := fun i =>
  state (fun t j => X m c (ix3 (i 0) t j)) (fun j => N1 m c (ix1 j)) (fun j => MOD m c (ix3 1 0 j)) (fun j => MOD m c (ix3 0 0 j))
    (fun j => W m c (ix2 j ⟨1536 + ((i 3).val * 128 + (i 4).val), by
      have h3 : (i 3).val < 4 := (i 3).isLt
      have h4 : (i 4).val < 128 := (i 4).isLt
      omega⟩))
    (fun j => W m c (ix2 j ⟨2048 + ((i 3).val * 128 + (i 5).val), by
      have h3 : (i 3).val < 4 := (i 3).isLt
      have h5 : (i 5).val < 128 := (i 5).isLt
      omega⟩)) (i 2) (i 3)

/-- A point's final states, from its blocks. -/
theorem lastStates_eq (c : Dev nD) (t : Fin cfg0.N) : lastStates m c t = final (iblk m c 0 t) (iblk m c 1 t) (iblk m c 2 t) (iblk m c 6 t) (iblk m c 7 t) := by
  unfold lastStates
  rw [View.read_writes_junk_eq_canon]
  funext y
  unfold pieces
  split
  · exact First.final_canon c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_6.stage (cfg0.slots t 6)) (hstage0_6 ((cfg0.slots t 6).cast nbuf0_6)) (win0_7.stage (cfg0.slots t 7)) (hstage0_7 ((cfg0.slots t 7).cast nbuf0_7)) (Memref.whole cc0_scratch9) (Memref.whole cc0_scratch10) (Memref.whole cc0_scratch11) (iblk m c 0 t) (iblk m c 1 t) (iblk m c 2 t) (iblk m c 6 t) (iblk m c 7 t) y
  · exact Later.final_canon c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_6.stage (cfg0.slots t 6)) (hstage0_6 ((cfg0.slots t 6).cast nbuf0_6)) (win0_7.stage (cfg0.slots t 7)) (hstage0_7 ((cfg0.slots t 7).cast nbuf0_7)) (Memref.whole cc0_scratch9) (Memref.whole cc0_scratch10) (Memref.whole cc0_scratch11) (iblk m c 0 t) (iblk m c 1 t) (iblk m c 2 t) (iblk m c 6 t) (iblk m c 7 t) y

/-- A point's final states are the whole batch's at its two members. -/
theorem point_states (c : Dev nD) (t : Fin cfg0.N) (b : Fin 2) (g : Fin 16) (hg : g.val = 2 * t.val + b.val) (s : Fin 2) (h : Fin 4) (d e : Fin 128) :
    final (iblk m c 0 t) (iblk m c 1 t) (iblk m c 2 t) (iblk m c 6 t) (iblk m c 7 t) (ix6 b 0 s h d e) = states m c (ix6 g 0 s h d e) := by
  show state (fun k j => (iblk m c 0 t : Vec Ideal S2x256x1024 .f32) (ix3 b k j)) (fun j => (iblk m c 2 t : Vec Ideal S1x1024 .f32) (ix2 0 j))
      (fun j => (iblk m c 1 t : Vec Ideal S6x8x1024 .f32) (ix3 1 0 j)) (fun j => (iblk m c 1 t : Vec Ideal S6x8x1024 .f32) (ix3 0 0 j))
      (fun j => (iblk m c 6 t : Vec Ideal S1024x1024 .f32) (ix2 j ⟨512 + (h.val * 128 + d.val), by omega⟩))
      (fun j => (iblk m c 7 t : Vec Ideal S1024x1024 .f32) (ix2 j ⟨h.val * 128 + e.val, by omega⟩)) s h
    = state (fun k j => X m c (ix3 g k j)) (fun j => N1 m c (ix1 j)) (fun j => MOD m c (ix3 1 0 j)) (fun j => MOD m c (ix3 0 0 j))
      (fun j => W m c (ix2 j ⟨1536 + (h.val * 128 + d.val), by omega⟩)) (fun j => W m c (ix2 j ⟨2048 + (h.val * 128 + e.val), by omega⟩)) s h
  rw [show (fun k j => (iblk m c 0 t : Vec Ideal S2x256x1024 .f32) (ix3 b k j)) = fun k j => X m c (ix3 g k j) from funext fun k => funext fun j => blk_0 m c t b g hg k j,
    show (fun j => (iblk m c 2 t : Vec Ideal S1x1024 .f32) (ix2 0 j)) = fun j => N1 m c (ix1 j) from funext fun j => blk_2 m c t j,
    show (fun j => (iblk m c 1 t : Vec Ideal S6x8x1024 .f32) (ix3 1 0 j)) = fun j => MOD m c (ix3 1 0 j) from funext fun j => blk_1 m c t 1 j,
    show (fun j => (iblk m c 1 t : Vec Ideal S6x8x1024 .f32) (ix3 0 0 j)) = fun j => MOD m c (ix3 0 0 j) from funext fun j => blk_1 m c t 0 j,
    show (fun j => (iblk m c 6 t : Vec Ideal S1024x1024 .f32) (ix2 j ⟨512 + (h.val * 128 + d.val), by omega⟩)) = fun j => W m c (ix2 j ⟨1536 + (h.val * 128 + d.val), by omega⟩) from
      funext fun j => blk_6 m c t j _ _ (by show 1536 + (h.val * 128 + d.val) = 1024 + (512 + (h.val * 128 + d.val)); omega),
    show (fun j => (iblk m c 7 t : Vec Ideal S1024x1024 .f32) (ix2 j ⟨h.val * 128 + e.val, by omega⟩)) = fun j => W m c (ix2 j ⟨2048 + (h.val * 128 + e.val), by omega⟩) from
      funext fun j => blk_7 m c t j _ _ rfl]

theorem arr_states (c : Dev nD) : (dats m 0 c).arrAt 19 cfg0.N = states m c := by
  refine (dats m 0 c).arrAt_eq_of_covers 19 _ (by decide +kernel) fun t hf y => ?_
  blk_simp
  rw [after_19, lastStates_eq]
  have hN : t.val < 8 := lt_of_lt_of_eq t.isLt (show cfg0.N = 8 from N_0)
  have hx : ∀ (b : Fin 2) (s : Fin 2) (h : Fin 4) (d e : Fin 128), (win0_19.blk t).view.emb (ix6 b (0 : Fin 1) s h d e) = (ix6 (⟨2 * t.val + b.val, by omega⟩ : Fin 16) (0 : Fin 1) s h d e : S16x1x2x4x128x128.Idx) := fun b s h d e => by
    blk_ext [idx_19 t]
  change S2x1x2x4x128x128.Idx at y
  obtain ⟨b, s, h, d, e, rfl⟩ : ∃ (b : Fin 2) (s : Fin 2) (h : Fin 4) (d e : Fin 128), y = ix6 b (0 : Fin 1) s h d e :=
    ⟨y 0, y 2, y 3, y 4, y 5, funext fun a => by
      match a with
      | ⟨0, _⟩ => rfl
      | ⟨1, _⟩ => exact (Subsingleton.elim (α := Fin 1) _ _)
      | ⟨2, _⟩ => rfl
      | ⟨3, _⟩ => rfl
      | ⟨4, _⟩ => rfl
      | ⟨5, _⟩ => rfl⟩
  rw [hx]
  exact point_states m c t b _ rfl s h d e

/-- The whole call: the array of final retention states at the recurrence's sums, the arguments as they were. -/
theorem run_value : θ_run defs (onTc (τ := τ) (main (F := Ideal))) ⟨m, fun _ => 0, ρ⟩ fun r => ∀ c : Dev nD,
      r.2.mem ((c : Thread nD τ).loc main_v18_4) = states m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(ends m h.1 c 19 rfl).trans (arr_states m c), h.2.1 c⟩)
    (θ_run_and ((θ_run defs _ _).mono (fun _ h => h.1) (run_grid m ρ)) (kept m ρ))

end Cert.MixerIdeal.Hand

end
-- ==== Proof.Mixer.Ref.lean ====
/- The reference's result, entry by entry, is the weighted sum. -/
module

public import proofs.«01_k».proof.Proof.Gen.MixerRefIdeal.Run
public import proofs.«01_k».proof.Proof.Mixer.Sums

@[expose] public section

set_option maxRecDepth 16384

noncomputable section

namespace Cert.MixerRefIdeal.Hand

open Cert.MixerRefIdeal
open Idealize.ShloMosaic Idealize.ShloMosaic.TcCoe Idealize.SL.Sem Cert.Retention

theorem forward_log (h : Fin 4) :
    Ideal.log (if _ : h.val < 1 then Ideal.ofBits .f32 0x3F780000#32 + Ideal.ofBits .f32 0x30BA0000#32
      else if _ : h.val - 1 < 1 then Ideal.ofBits .f32 0x3F7C0000#32 else if _ : h.val - 1 - 1 < 1 then Ideal.ofBits .f32 0x3F7E0000#32 else Ideal.ofBits .f32 0x3F7F0000#32) = ((logF h : ℝ) : EReal) := by
  rw [f0, f1, f2, f3, ← log_base]
  fin_cases h <;> simp

theorem backward_log (h : Fin 4) :
    (if _ : h.val < 1 then Ideal.ofBits .f32 0xBCB70C9E#32
      else if _ : h.val - 1 < 1 then Ideal.ofBits .f32 0xBC3606DA#32 else if _ : h.val - 1 - 1 < 1 then Ideal.ofBits .f32 0xBBB5856C#32 else Ideal.ofBits .f32 0xBB354511#32) = ((logB h : ℝ) : EReal) := by
  rw [g0, g1, g2, g3]
  fin_cases h <;> simp

variable (m : (ℓ : Loc nD τ sig) → Buf (Elt Ideal) ℓ)

abbrev X (c : Dev nD) : Vec Ideal S16x256x1024 .f32 := m ((c : Thread nD τ).loc main_arg0)
abbrev MOD (c : Dev nD) : Vec Ideal S6x8x1024 .f32 := m ((c : Thread nD τ).loc main_arg1)
abbrev N1 (c : Dev nD) : Vec Ideal S1024 .f32 := m ((c : Thread nD τ).loc main_arg2)
abbrev W (c : Dev nD) : Vec Ideal S1024x3072 .f32 := m ((c : Thread nD τ).loc main_arg5)

set_option maxHeartbeats 1000000 in
theorem forward_at (c : Dev nD) (b : Fin 16) (h : Fin 4) (d e : Fin 128) :
    (Value.res_out0 m c : Vec Ideal S16x1x2x4x128x128 .f32) (ix6 b 0 0 h d e)
      = state (fun t j => X m c (ix3 b t j)) (fun j => N1 m c (ix1 j)) (fun j => MOD m c (ix3 1 0 j)) (fun j => MOD m c (ix3 0 0 j))
          (fun j => W m c (ix2 j ⟨1536 + (h.val * 128 + d.val), by omega⟩)) (fun j => W m c (ix2 j ⟨2048 + (h.val * 128 + e.val), by omega⟩)) 0 h := by
  unfold Value.res_out0 Value.res_main_v134
  pointwise
  simp only [forward_log, exp_chunk, exp_place]
  exact recurrence (fun t => proj (fun j => X m c (ix3 b t j)) (fun j => N1 m c (ix1 j)) (fun j => MOD m c (ix3 1 0 j)) (fun j => MOD m c (ix3 0 0 j)) (fun j => W m c (ix2 j ⟨1536 + (h.val * 128 + d.val), by omega⟩)))
    (fun t => proj (fun j => X m c (ix3 b t j)) (fun j => N1 m c (ix1 j)) (fun j => MOD m c (ix3 1 0 j)) (fun j => MOD m c (ix3 0 0 j)) (fun j => W m c (ix2 j ⟨2048 + (h.val * 128 + e.val), by omega⟩))) (logF h)

set_option maxHeartbeats 1000000 in
theorem backward_at (c : Dev nD) (b : Fin 16) (h : Fin 4) (d e : Fin 128) :
    (Value.res_out0 m c : Vec Ideal S16x1x2x4x128x128 .f32) (ix6 b 0 1 h d e)
      = state (fun t j => X m c (ix3 b t j)) (fun j => N1 m c (ix1 j)) (fun j => MOD m c (ix3 1 0 j)) (fun j => MOD m c (ix3 0 0 j))
          (fun j => W m c (ix2 j ⟨1536 + (h.val * 128 + d.val), by omega⟩)) (fun j => W m c (ix2 j ⟨2048 + (h.val * 128 + e.val), by omega⟩)) 1 h := by
  unfold Value.res_out0 Value.res_main_v134
  pointwise
  simp only [backward_log, exp_chunk, exp_place, List.mem_singleton, show ((0 : Fin 5) = 1) = False from by decide, show ((0 : Fin 5) = 2) = False from by decide, show ((1 : Fin 5) = 2) = False from by decide,
    show ((2 : Fin 5) = 1) = False from by decide, show ((3 : Fin 5) = 1) = False from by decide, show ((3 : Fin 5) = 2) = False from by decide,
    show ((4 : Fin 5) = 1) = False from by decide, show ((4 : Fin 5) = 2) = False from by decide, ↓reduceIte]
  refine Eq.trans ?_ ((recurrence (fun t => proj (fun j => X m c (ix3 b t.rev j)) (fun j => N1 m c (ix1 j)) (fun j => MOD m c (ix3 1 0 j)) (fun j => MOD m c (ix3 0 0 j)) (fun j => W m c (ix2 j ⟨1536 + (h.val * 128 + d.val), by omega⟩)))
    (fun t => proj (fun j => X m c (ix3 b t.rev j)) (fun j => N1 m c (ix1 j)) (fun j => MOD m c (ix3 1 0 j)) (fun j => MOD m c (ix3 0 0 j)) (fun j => W m c (ix2 j ⟨2048 + (h.val * 128 + e.val), by omega⟩))) (logB h)).trans
    (from_last (fun t => proj (fun j => X m c (ix3 b t j)) (fun j => N1 m c (ix1 j)) (fun j => MOD m c (ix3 1 0 j)) (fun j => MOD m c (ix3 0 0 j)) (fun j => W m c (ix2 j ⟨1536 + (h.val * 128 + d.val), by omega⟩)))
    (fun t => proj (fun j => X m c (ix3 b t j)) (fun j => N1 m c (ix1 j)) (fun j => MOD m c (ix3 1 0 j)) (fun j => MOD m c (ix3 0 0 j)) (fun j => W m c (ix2 j ⟨2048 + (h.val * 128 + e.val), by omega⟩))) (logB h)))
  have p0 : ∀ x : Fin 64, Fin.rev (⟨x.val, by omega⟩ : Fin 256) = ⟨(Fin.rev (0 : Fin 4)).val * 64 + (Fin.rev x).val, by simp; omega⟩ := fun x => by
    apply Fin.ext; simp only [Fin.val_rev]; simp; omega
  have p1 : ∀ x : Fin 64, Fin.rev (⟨64 + x.val, by omega⟩ : Fin 256) = ⟨(Fin.rev (1 : Fin 4)).val * 64 + (Fin.rev x).val, by simp; omega⟩ := fun x => by
    apply Fin.ext; simp only [Fin.val_rev]; simp; omega
  have p2 : ∀ x : Fin 64, Fin.rev (⟨128 + x.val, by omega⟩ : Fin 256) = ⟨(Fin.rev (2 : Fin 4)).val * 64 + (Fin.rev x).val, by simp; omega⟩ := fun x => by
    apply Fin.ext; simp only [Fin.val_rev]; simp; omega
  have p3 : ∀ x : Fin 64, Fin.rev (⟨192 + x.val, by omega⟩ : Fin 256) = ⟨(Fin.rev (3 : Fin 4)).val * 64 + (Fin.rev x).val, by simp; omega⟩ := fun x => by
    apply Fin.ext; simp only [Fin.val_rev]; simp; omega
  simp only [proj, token, p0, p1, p2, p3]

end Cert.MixerRefIdeal.Hand

end
-- ==== Proof.Mixer.Bits.lean ====
/- The mixer call as the hardware runs it, bit by bit: the same program with the named constants at their literals. -/
module

public import proofs.«01_k».proof.Proof.Mixer.Launch
public import proofs.«01_k».proof.Proof.Gen.Mixer
public import proofs.«01_k».proof.Defs

@[expose] public section

set_option maxRecDepth 16384

noncomputable section

namespace Cert.Mixer.Hand

open Idealize.ShloMosaic Idealize.SL.Sem

/-- A named constant at the bits is its literal. -/
@[reducible] def literal : Named Bits := ⟨fun _ _ {φ} bits => Scalar.ofBits φ bits⟩

set_option maxHeartbeats 1000000 in
/-- The two printings of the mixer call have one body table. -/
theorem bodies : @Cert.Mixer.defs₀ Bits _ _ = @Cert.MixerIdeal.defs₀ Bits _ literal _ := by
  unfold Cert.Mixer.defs₀ Cert.MixerIdeal.defs₀
  refine congrArg Defs.onTc ?_
  funext l a
  match l, a with
  | 0, (t, s) => rfl

set_option maxHeartbeats 2000000 in
theorem table : @Cert.Mixer.defs Bits _ _ = @Cert.MixerIdeal.defs Bits _ literal _ :=
  congrArg (Pipeline.defs Cert.MixerIdeal.pcfgs) bodies

set_option maxHeartbeats 2000000 in
theorem frame : quiescent_Mixer := fun m ρ _ => by
  have h := @Cert.MixerIdeal.Hand.kept Bits _ literal m ρ
  rw [← table] at h
  exact h

end Cert.Mixer.Hand

end
-- ==== Proof.lean ====
/- The claims of this certificate: the frames of the programs, the value of the expert call and the mixer call's final retention states. -/
module

public import proofs.«01_k».proof.Defs
public import proofs.«01_k».proof.Proof.Expert.Value
public import proofs.«01_k».proof.Proof.Mixer.Value
public import proofs.«01_k».proof.Proof.Mixer.Ref
public import proofs.«01_k».proof.Proof.Mixer.Bits
public import proofs.«01_k».proof.Proof.Gen.Expert
public import proofs.«01_k».proof.Proof.Gen.Mixer
public import proofs.«01_k».proof.Proof.Gen.MixerRefIdeal.Run
public import proofs.«01_k».proof.Proof.Gen.ExpertRefIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The two printings of the expert call have one body table. -/
theorem expert_bodies : @Cert.Expert.defs₀ Bits _ _ = @Cert.ExpertIdeal.defs₀ Bits _ _ := by
  unfold Cert.Expert.defs₀ Cert.ExpertIdeal.defs₀
  refine congrArg Defs.onTc ?_
  funext l a
  match l, a with
  | 0, (t, s) => rfl

theorem expert_defs : @Cert.Expert.defs Bits _ _ = @Cert.ExpertIdeal.defs Bits _ _ :=
  congrArg (Pipeline.defs Cert.ExpertIdeal.pcfgs) expert_bodies

theorem frame_expert : quiescent_Expert := fun m ρ _ => by
  have h := Cert.ExpertIdeal.Hand.kept (F := Bits) m ρ
  rw [← expert_defs] at h
  exact h

theorem frame_expert_ideal : quiescent_ExpertIdeal := fun m ρ _ => Cert.ExpertIdeal.Hand.kept (F := Ideal) m ρ

theorem frame_expert_ref : quiescent_ExpertRefIdeal := fun m ρ _ =>
  (θ_run Cert.ExpertRefIdeal.defs _ _).mono (fun r h => ⟨fun c => (h c).2, sem_eq_zero_of_no_sems (by decide) r.2⟩)
    (Cert.ExpertRefIdeal.Value.run (F := Ideal) m ρ)

/-- The reference's operations at an index are the feed-forward sum the kernel leaves. -/
theorem value_expert : algebraic_ExpertIdeal_ExpertRefIdeal := by
  intro m ρ m' ρ' _ hagree
  refine ⟨_, Cert.ExpertIdeal.Hand.run_value m ρ, ?_⟩
  refine (θ_run Cert.ExpertRefIdeal.defs _ _).mono (fun _ h c => ⟨?_, (h c).2⟩) (Cert.ExpertRefIdeal.Value.run (F := Ideal) m' ρ')
  rw [(h c).1]
  simp only [hagree c]
  funext i
  idx_vars i
  unfold Cert.ExpertIdeal.Hand.ffn Cert.ExpertIdeal.Hand.unit
  simp only [Cert.ExpertIdeal.Hand.act_eq, Ideal.logistic]
  pointwise

theorem frame_mixer_ideal : quiescent_MixerIdeal := fun m ρ _ => Cert.MixerIdeal.Hand.kept (F := Ideal) m ρ

theorem frame_mixer_ref : quiescent_MixerRefIdeal := fun m ρ _ =>
  (θ_run Cert.MixerRefIdeal.defs _ _).mono (fun r h => ⟨fun c => (h c).2, sem_eq_zero_of_no_sems (by decide) r.2⟩)
    (Cert.MixerRefIdeal.Value.run (F := Ideal) m ρ)

theorem constants_mixer : preserves_Mixer_MixerIdeal :=
  ⟨IdealRules.named_const.statement Cert.MixerIdeal.κ "nlg0" .f32 0x3D020AEC#32 _ rfl,
    IdealRules.named_const.statement Cert.MixerIdeal.κ "nlg1" .f32 0x3C8102B3#32 _ rfl,
    IdealRules.named_const.statement Cert.MixerIdeal.κ "nlg2" .f32 0x3C0080AC#32 _ rfl,
    IdealRules.named_const.statement Cert.MixerIdeal.κ "nlg3" .f32 0x3B80402B#32 _ rfl,
    IdealRules.named_const.statement Cert.MixerIdeal.κ "gn0" .f32 0x399FCAFD#32 _ rfl,
    IdealRules.named_const.statement Cert.MixerIdeal.κ "gn1" .f32 0x3C93AF63#32 _ rfl,
    IdealRules.named_const.statement Cert.MixerIdeal.κ "gn2" .f32 0x3E0A94F8#32 _ rfl,
    IdealRules.named_const.statement Cert.MixerIdeal.κ "gn3" .f32 0x3EBCB916#32 _ rfl⟩

/-- The reference's chunked recurrence ends, at every index, in the state the kernel leaves. -/
theorem value_mixer : algebraic_MixerIdeal_MixerRefIdeal := by
  intro m ρ m' ρ' _ hagree
  refine ⟨_, Cert.MixerIdeal.Hand.run_value m ρ, ?_⟩
  refine (θ_run Cert.MixerRefIdeal.defs _ _).mono (fun _ h c => ⟨?_, (h c).2⟩) (Cert.MixerRefIdeal.Value.run (F := Ideal) m' ρ')
  have e0 : Cert.MixerRefIdeal.Hand.X m' c = Cert.MixerIdeal.Hand.X m c := (hagree c).1
  have e1 : Cert.MixerRefIdeal.Hand.MOD m' c = Cert.MixerIdeal.Hand.MOD m c := (hagree c).2.1
  have e2 : Cert.MixerRefIdeal.Hand.N1 m' c = Cert.MixerIdeal.Hand.N1 m c := (hagree c).2.2.1
  have e5 : Cert.MixerRefIdeal.Hand.W m' c = Cert.MixerIdeal.Hand.W m c := (hagree c).2.2.2.2.2.1
  refine (h c).1.trans ?_
  have k : ∀ (b : Fin 16) (s : Fin 2) (q : Fin 4) (d e : Fin 128), (Cert.MixerRefIdeal.Value.res_out0 m' c : Vec Ideal Cert.MixerRefIdeal.S16x1x2x4x128x128 .f32) (ix6 b 0 s q d e)
      = Cert.MixerIdeal.Hand.states m c (ix6 b 0 s q d e) := fun b s q d e => by
    obtain rfl | rfl : s = 0 ∨ s = 1 := by omega
    · refine (Cert.MixerRefIdeal.Hand.forward_at m' c b q d e).trans ?_
      rw [e0, e1, e2, e5]
      rfl
    · refine (Cert.MixerRefIdeal.Hand.backward_at m' c b q d e).trans ?_
      rw [e0, e1, e2, e5]
      rfl
  funext i
  change Cert.MixerIdeal.S16x1x2x4x128x128.Idx at i
  have hi : i = ix6 (i 0) (0 : Fin 1) (i 2) (i 3) (i 4) (i 5) := funext fun a => by
    match a with
    | ⟨0, _⟩ => rfl
    | ⟨1, _⟩ => exact (Subsingleton.elim (α := Fin 1) _ _)
    | ⟨2, _⟩ => rfl
    | ⟨3, _⟩ => rfl
    | ⟨4, _⟩ => rfl
    | ⟨5, _⟩ => rfl
  rw [hi]
  exact k (i 0) (i 2) (i 3) (i 4) (i 5)

theorem claim : Cert.Claim := ⟨Cert.Mixer.Gen.facts, Cert.MixerIdeal.Gen.facts, Cert.MixerRefIdeal.Gen.facts,
  Cert.Expert.Gen.facts, Cert.ExpertIdeal.Gen.facts, Cert.ExpertRefIdeal.Gen.facts,
  Cert.Mixer.Hand.frame, frame_mixer_ideal, frame_mixer_ref, frame_expert, frame_expert_ideal, frame_expert_ref,
  constants_mixer, value_mixer, (trivial : preserves_Expert_ExpertIdeal), value_expert⟩

end Cert.Proof

end
